-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Plan (m : (ℓ : Loc Cert.Plan.nD Cert.Plan.τ Cert.Plan.sig) → Buf (Elt Bits) ℓ) : Prop :=
  True

def Pre_PlanIdeal (m : (ℓ : Loc Cert.PlanIdeal.nD Cert.PlanIdeal.τ Cert.PlanIdeal.sig) → Buf (Elt Ideal) ℓ) : Prop :=
  True

def Pre_PlanReferenceIdeal (m : (ℓ : Loc Cert.PlanReferenceIdeal.nD Cert.PlanReferenceIdeal.τ Cert.PlanReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Plan [hPlan : Cert.Plan.Facts] : Prop :=
  ∀ (m : (ℓ : Loc Cert.Plan.nD Cert.Plan.τ Cert.Plan.sig) → Buf (Elt Bits) ℓ) (g : Dev Cert.Plan.nD → PrngReg), Pre_Plan m →
    θ_run (Cert.Plan.defs (F := Bits)) (onTc (τ := Cert.Plan.τ) (Cert.Plan.main (F := Bits))) ⟨m, fun _ => 0, g⟩ (fun r => (∀ c : Dev Cert.Plan.nD,
      r.2.mem ((c.tc : Thread Cert.Plan.nD Cert.Plan.τ).loc Cert.Plan.main_arg0) = m ((c.tc : Thread Cert.Plan.nD Cert.Plan.τ).loc Cert.Plan.main_arg0)
      ∧ r.2.mem ((c.tc : Thread Cert.Plan.nD Cert.Plan.τ).loc Cert.Plan.main_arg1) = m ((c.tc : Thread Cert.Plan.nD Cert.Plan.τ).loc Cert.Plan.main_arg1))
      ∧ r.2.sem = fun _ => 0)

def quiescent_PlanIdeal [hPlanIdeal : Cert.PlanIdeal.Facts] : Prop :=
  ∀ (m : (ℓ : Loc Cert.PlanIdeal.nD Cert.PlanIdeal.τ Cert.PlanIdeal.sig) → Buf (Elt Ideal) ℓ) (g : Dev Cert.PlanIdeal.nD → PrngReg), Pre_PlanIdeal m →
    θ_run (Cert.PlanIdeal.defs (F := Ideal)) (onTc (τ := Cert.PlanIdeal.τ) (Cert.PlanIdeal.main (F := Ideal))) ⟨m, fun _ => 0, g⟩ (fun r => (∀ c : Dev Cert.PlanIdeal.nD,
      r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0)
      ∧ r.2.mem ((c.tc : Thread Cert.PlanIdeal.nD Cert.PlanIdeal.τ).loc Cert.PlanIdeal.main_arg1) = m ((c.tc : Thread Cert.PlanIdeal.nD Cert.PlanIdeal.τ).loc Cert.PlanIdeal.main_arg1))
      ∧ r.2.sem = fun _ => 0)

def quiescent_PlanReferenceIdeal [hPlanReferenceIdeal : Cert.PlanReferenceIdeal.Facts] : Prop :=
  ∀ (m : (ℓ : Loc Cert.PlanReferenceIdeal.nD Cert.PlanReferenceIdeal.τ Cert.PlanReferenceIdeal.sig) → Buf (Elt Ideal) ℓ) (g : Dev Cert.PlanReferenceIdeal.nD → PrngReg), Pre_PlanReferenceIdeal m →
    θ_run (Cert.PlanReferenceIdeal.defs (F := Ideal)) (onTc (τ := Cert.PlanReferenceIdeal.τ) (Cert.PlanReferenceIdeal.main (F := Ideal))) ⟨m, fun _ => 0, g⟩ (fun r => (∀ c : Dev Cert.PlanReferenceIdeal.nD,
      r.2.mem ((c.tc : Thread Cert.PlanReferenceIdeal.nD Cert.PlanReferenceIdeal.τ).loc Cert.PlanReferenceIdeal.main_arg0) = m ((c.tc : Thread Cert.PlanReferenceIdeal.nD Cert.PlanReferenceIdeal.τ).loc Cert.PlanReferenceIdeal.main_arg0)
      ∧ r.2.mem ((c.tc : Thread Cert.PlanReferenceIdeal.nD Cert.PlanReferenceIdeal.τ).loc Cert.PlanReferenceIdeal.main_arg1) = m ((c.tc : Thread Cert.PlanReferenceIdeal.nD Cert.PlanReferenceIdeal.τ).loc Cert.PlanReferenceIdeal.main_arg1))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Plan_PlanIdeal : Prop :=
  True

def algebraic_PlanIdeal_PlanReferenceIdeal [hPlanIdeal : Cert.PlanIdeal.Facts] [hPlanReferenceIdeal : Cert.PlanReferenceIdeal.Facts] : Prop :=
  ∀ (m : (ℓ : Loc Cert.PlanIdeal.nD Cert.PlanIdeal.τ Cert.PlanIdeal.sig) → Buf (Elt Ideal) ℓ) (g : Dev Cert.PlanIdeal.nD → PrngReg)
    (m' : (ℓ : Loc Cert.PlanReferenceIdeal.nD Cert.PlanReferenceIdeal.τ Cert.PlanReferenceIdeal.sig) → Buf (Elt Ideal) ℓ) (g' : Dev Cert.PlanReferenceIdeal.nD → PrngReg), Pre_PlanIdeal m →
    (∀ c : Dev Cert.PlanIdeal.nD,
      m' ((c.tc : Thread Cert.PlanReferenceIdeal.nD Cert.PlanReferenceIdeal.τ).loc Cert.PlanReferenceIdeal.main_arg0) = m ((c.tc : Thread Cert.PlanIdeal.nD Cert.PlanIdeal.τ).loc Cert.PlanIdeal.main_arg0)
      ∧ m' ((c.tc : Thread Cert.PlanReferenceIdeal.nD Cert.PlanReferenceIdeal.τ).loc Cert.PlanReferenceIdeal.main_arg1) = m ((c.tc : Thread Cert.PlanIdeal.nD Cert.PlanIdeal.τ).loc Cert.PlanIdeal.main_arg1)) →
    ∃ (v0 : (c : Dev Cert.PlanIdeal.nD) → Buf (Elt Ideal) ((c.tc : Thread Cert.PlanIdeal.nD Cert.PlanIdeal.τ).loc Cert.PlanIdeal.main_v0_0)),
      θ_run (Cert.PlanIdeal.defs (F := Ideal)) (onTc (τ := Cert.PlanIdeal.τ) (Cert.PlanIdeal.main (F := Ideal))) ⟨m, fun _ => 0, g⟩ (fun r => ∀ c : Dev Cert.PlanIdeal.nD,
          r.2.mem ((c.tc : Thread Cert.PlanIdeal.nD Cert.PlanIdeal.τ).loc Cert.PlanIdeal.main_v0_0) = v0 c
          ∧ r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0)
          ∧ r.2.mem ((c.tc : Thread Cert.PlanIdeal.nD Cert.PlanIdeal.τ).loc Cert.PlanIdeal.main_arg1) = m ((c.tc : Thread Cert.PlanIdeal.nD Cert.PlanIdeal.τ).loc Cert.PlanIdeal.main_arg1))
      ∧ θ_run (Cert.PlanReferenceIdeal.defs (F := Ideal)) (onTc (τ := Cert.PlanReferenceIdeal.τ) (Cert.PlanReferenceIdeal.main (F := Ideal))) ⟨m', fun _ => 0, g'⟩ (fun r => ∀ c : Dev Cert.PlanReferenceIdeal.nD,
          r.2.mem ((c.tc : Thread Cert.PlanReferenceIdeal.nD Cert.PlanReferenceIdeal.τ).loc Cert.PlanReferenceIdeal.main_v13) = v0 c
          ∧ r.2.mem ((c.tc : Thread Cert.PlanReferenceIdeal.nD Cert.PlanReferenceIdeal.τ).loc Cert.PlanReferenceIdeal.main_arg0) = m' ((c.tc : Thread Cert.PlanReferenceIdeal.nD Cert.PlanReferenceIdeal.τ).loc Cert.PlanReferenceIdeal.main_arg0)
          ∧ r.2.mem ((c.tc : Thread Cert.PlanReferenceIdeal.nD Cert.PlanReferenceIdeal.τ).loc Cert.PlanReferenceIdeal.main_arg1) = m' ((c.tc : Thread Cert.PlanReferenceIdeal.nD Cert.PlanReferenceIdeal.τ).loc Cert.PlanReferenceIdeal.main_arg1))

def Claim : Prop :=
  ∃ (hKernel : Cert.Kernel.Facts) (hKernelIdeal : Cert.KernelIdeal.Facts) (hReferenceIdeal : Cert.ReferenceIdeal.Facts) (hPlan : Cert.Plan.Facts) (hPlanIdeal : Cert.PlanIdeal.Facts) (hPlanReferenceIdeal : Cert.PlanReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Plan (hPlan := hPlan)
    ∧ quiescent_PlanIdeal (hPlanIdeal := hPlanIdeal)
    ∧ quiescent_PlanReferenceIdeal (hPlanReferenceIdeal := hPlanReferenceIdeal)
    ∧ preserves_Kernel_KernelIdeal
    ∧ algebraic_KernelIdeal_ReferenceIdeal_pre_routed (hKernelIdeal := hKernelIdeal) (hReferenceIdeal := hReferenceIdeal) (hPre_routed := hPre_routed)
    ∧ preserves_Plan_PlanIdeal
    ∧ algebraic_PlanIdeal_PlanReferenceIdeal (hPlanIdeal := hPlanIdeal) (hPlanReferenceIdeal := hPlanReferenceIdeal)
-- ==== Pre_routed.lean ====
abbrev S25600 : Shape := ⟨1, ![25600]⟩
abbrev S5120x4 : Shape := ⟨2, ![5120, 4]⟩
abbrev S5120x16 : Shape := ⟨2, ![5120, 16]⟩
abbrev S5120x6144 : Shape := ⟨2, ![5120, 6144]⟩
abbrev S5120 : Shape := ⟨1, ![5120]⟩
abbrev S6144x16 : Shape := ⟨2, ![6144, 16]⟩
abbrev S16 : Shape := ⟨1, ![16]⟩
abbrev S1 : Shape := ⟨1, ![1]⟩
abbrev S_ : Shape := ⟨0, ![]⟩
abbrev S5120x1 : Shape := ⟨2, ![5120, 1]⟩

class Facts : Prop where
  bcast_S_S5120x4 : S_.BroadcastsInDim S5120x4 (![] : Fin 0 → Fin S5120x4.rank)
  slices_S5120x4_S5120x1_0_1 : S5120x4.Slices ![0, 1] S5120x1
  shapeCasts_S5120x1_S5120 : S5120x1.ShapeCasts S5120
  slices_S5120x4_S5120x1_0_0 : S5120x4.Slices ![0, 0] S5120x1
  slices_S5120x4_S5120x1_0_2 : S5120x4.Slices ![0, 2] S5120x1
  slices_S5120x4_S5120x1_0_3 : S5120x4.Slices ![0, 3] S5120x1
  reducesTo_S5120x4_S_d0_1 : S5120x4.ReducesTo [0, 1] S_
  h_S_ : 0 < S_.numel
  reducesTo_S5120_S_d0 : S5120.ReducesTo [0] S_

variable [Facts]

def fn_where {F : FTy → Type} [FloatOps F] (arg0 : IVec S5120x4 1) (arg1 : IVec S5120x4 32) (arg2 : IVec S5120x4 32) : IVec S5120x4 32 :=
  let v0 : IVec S5120x4 32 := select arg0 arg1 arg2
  v0

def fn_floor_divide {F : FTy → Type} [FloatOps F] (arg0 : IVec S5120x4 32) (arg1 : IVec S_ 32) : IVec S5120x4 32 :=
  let v0 : IVec S_ 32 := id arg1
  let v1 : IVec S5120x4 32 := broadcastInDim S5120x4 ![] bcast_S_S5120x4 v0
  let v2 : IVec S5120x4 32 := Host.divsi arg0 v1
  let v3 : IVec S5120x4 32 := signi arg0
  let v4 : IVec S_ 32 := signi v0
  let v5 : IVec S5120x4 32 := broadcastInDim S5120x4 ![] bcast_S_S5120x4 v4
  let v6 : IVec S5120x4 1 := cmpi .ne v3 v5
  let v7 : IVec S5120x4 32 := broadcastInDim S5120x4 ![] bcast_S_S5120x4 v0
  let v8 : IVec S5120x4 32 := Host.remsi arg0 v7
  let c : IVec S_ 32 := constantI S_ 32 0#32
  let v9 : IVec S5120x4 32 := broadcastInDim S5120x4 ![] bcast_S_S5120x4 c
  let v10 : IVec S5120x4 1 := cmpi .ne v8 v9
  let v11 : IVec S5120x4 1 := andi v6 v10
  let c_0 : IVec S_ 32 := constantI S_ 32 1#32
  let v12 : IVec S5120x4 32 := broadcastInDim S5120x4 ![] bcast_S_S5120x4 c_0
  let v13 : IVec S5120x4 32 := subi v2 v12
  let v14 : IVec S5120x4 32 := fn_where (F := F) v11 v13 v2
  v14

def fn_part2 {F : FTy → Type} [FloatOps F] (main_v38 : IVec S_ 1) (main_v43 : IVec S5120 1) : IVec S_ 1 :=
  let main_c_3 : IVec S_ 1 := constantI S_ 1 1#1
  let main_v44 : IVec S_ 1 := (fun x v => Host.reduce IntOp.andi x v reducesTo_S5120_S_d0 h_S_) main_v43 main_c_3
  let main_v45 : IVec S_ 1 := andi main_v38 main_v44
  main_v45

def fn_part1 {F : FTy → Type} [FloatOps F] (main_arg2 : IVec S5120x4 32) (main_v7 : IVec S5120x4 1) (main_v12 : IVec S5120 1) (main_v17 : IVec S5120 1) (main_v19 : IVec S5120 32) (main_v20 : IVec S5120x1 32) : IVec S_ 1 :=
  let main_v21 : IVec S5120 32 := shapeCast S5120 main_v20 shapeCasts_S5120x1_S5120
  let main_v22 : IVec S5120 1 := cmpi .ne main_v19 main_v21
  let main_v23 : IVec S5120x1 32 := (extractStridedSlice S5120x1 ![0, 3] · slices_S5120x4_S5120x1_0_3) main_arg2
  let main_v24 : IVec S5120 32 := shapeCast S5120 main_v23 shapeCasts_S5120x1_S5120
  let main_v25 : IVec S5120x1 32 := (extractStridedSlice S5120x1 ![0, 0] · slices_S5120x4_S5120x1_0_0) main_arg2
  let main_v26 : IVec S5120 32 := shapeCast S5120 main_v25 shapeCasts_S5120x1_S5120
  let main_v27 : IVec S5120 1 := cmpi .ne main_v24 main_v26
  let main_v28 : IVec S5120x1 32 := (extractStridedSlice S5120x1 ![0, 3] · slices_S5120x4_S5120x1_0_3) main_arg2
  let main_v29 : IVec S5120 32 := shapeCast S5120 main_v28 shapeCasts_S5120x1_S5120
  let main_v30 : IVec S5120x1 32 := (extractStridedSlice S5120x1 ![0, 1] · slices_S5120x4_S5120x1_0_1) main_arg2
  let main_v31 : IVec S5120 32 := shapeCast S5120 main_v30 shapeCasts_S5120x1_S5120
  let main_v32 : IVec S5120 1 := cmpi .ne main_v29 main_v31
  let main_v33 : IVec S5120x1 32 := (extractStridedSlice S5120x1 ![0, 3] · slices_S5120x4_S5120x1_0_3) main_arg2
  let main_v34 : IVec S5120 32 := shapeCast S5120 main_v33 shapeCasts_S5120x1_S5120
  let main_v35 : IVec S5120x1 32 := (extractStridedSlice S5120x1 ![0, 2] · slices_S5120x4_S5120x1_0_2) main_arg2
  let main_v36 : IVec S5120 32 := shapeCast S5120 main_v35 shapeCasts_S5120x1_S5120
  let main_v37 : IVec S5120 1 := cmpi .ne main_v34 main_v36
  let main_c_2 : IVec S_ 1 := constantI S_ 1 1#1
  let main_v38 : IVec S_ 1 := (fun x v => Host.reduce IntOp.andi x v reducesTo_S5120x4_S_d0_1 h_S_) main_v7 main_c_2
  let main_v39 : IVec S5120 1 := andi main_v12 main_v17
  let main_v40 : IVec S5120 1 := andi main_v39 main_v22
  let main_v41 : IVec S5120 1 := andi main_v40 main_v27
  let main_v42 : IVec S5120 1 := andi main_v41 main_v32
  let main_v43 : IVec S5120 1 := andi main_v42 main_v37
  fn_part2 (F := F) main_v38 main_v43

def fn {F : FTy → Type} [FloatOps F] (main_arg0 : FVec F S25600 .f32) (main_arg1 : IVec S5120x4 32) (main_arg2 : IVec S5120x4 32) (main_arg3 : FVec F S5120x16 .f32) (main_arg4 : FVec F S5120x6144 .fp8e4m3) (main_arg5 : FVec F S5120 .f32) (main_arg6 : FVec F S6144x16 .bf16) (main_arg7 : FVec F S16 .f32) (main_arg8 : FVec F S1 .f32) : IVec S_ 1 :=
  let main_c : IVec S_ 32 := constantI S_ 32 0#32
  let main_v0 : IVec S5120x4 32 := broadcastInDim S5120x4 ![] bcast_S_S5120x4 main_c
  let main_v1 : IVec S5120x4 1 := cmpi .slt main_arg1 main_v0
  let main_c_0 : IVec S_ 32 := constantI S_ 32 25600#32
  let main_v2 : IVec S5120x4 32 := broadcastInDim S5120x4 ![] bcast_S_S5120x4 main_c_0
  let main_v3 : IVec S5120x4 1 := cmpi .slt main_arg1 main_v2
  let main_c_1 : IVec S_ 32 := constantI S_ 32 1600#32
  let main_v4 : IVec S5120x4 32 := fn_floor_divide (F := F) main_arg1 main_c_1
  let main_v5 : IVec S5120x4 1 := cmpi .eq main_arg2 main_v4
  let main_v6 : IVec S5120x4 1 := andi main_v3 main_v5
  let main_v7 : IVec S5120x4 1 := ori main_v1 main_v6
  let main_v8 : IVec S5120x1 32 := (extractStridedSlice S5120x1 ![0, 1] · slices_S5120x4_S5120x1_0_1) main_arg2
  let main_v9 : IVec S5120 32 := shapeCast S5120 main_v8 shapeCasts_S5120x1_S5120
  let main_v10 : IVec S5120x1 32 := (extractStridedSlice S5120x1 ![0, 0] · slices_S5120x4_S5120x1_0_0) main_arg2
  let main_v11 : IVec S5120 32 := shapeCast S5120 main_v10 shapeCasts_S5120x1_S5120
  let main_v12 : IVec S5120 1 := cmpi .ne main_v9 main_v11
  let main_v13 : IVec S5120x1 32 := (extractStridedSlice S5120x1 ![0, 2] · slices_S5120x4_S5120x1_0_2) main_arg2
  let main_v14 : IVec S5120 32 := shapeCast S5120 main_v13 shapeCasts_S5120x1_S5120
  let main_v15 : IVec S5120x1 32 := (extractStridedSlice S5120x1 ![0, 0] · slices_S5120x4_S5120x1_0_0) main_arg2
  let main_v16 : IVec S5120 32 := shapeCast S5120 main_v15 shapeCasts_S5120x1_S5120
  let main_v17 : IVec S5120 1 := cmpi .ne main_v14 main_v16
  let main_v18 : IVec S5120x1 32 := (extractStridedSlice S5120x1 ![0, 2] · slices_S5120x4_S5120x1_0_2) main_arg2
  let main_v19 : IVec S5120 32 := shapeCast S5120 main_v18 shapeCasts_S5120x1_S5120
  let main_v20 : IVec S5120x1 32 := (extractStridedSlice S5120x1 ![0, 1] · slices_S5120x4_S5120x1_0_1) main_arg2
  fn_part1 (F := F) main_arg2 main_v7 main_v12 main_v17 main_v19 main_v20
-- ==== Kernel.lean ====
abbrev S25600 : Shape := ⟨1, ![25600]⟩
abbrev S5120x4 : Shape := ⟨2, ![5120, 4]⟩
abbrev S5120x16 : Shape := ⟨2, ![5120, 16]⟩
abbrev S5120x6144 : Shape := ⟨2, ![5120, 6144]⟩
abbrev S5120 : Shape := ⟨1, ![5120]⟩
abbrev S6144x16 : Shape := ⟨2, ![6144, 16]⟩
abbrev S16 : Shape := ⟨1, ![16]⟩
abbrev S1 : Shape := ⟨1, ![1]⟩
abbrev S16x1600 : Shape := ⟨2, ![16, 1600]⟩
abbrev S_ : Shape := ⟨0, ![]⟩
abbrev S16x1792 : Shape := ⟨2, ![16, 1792]⟩
abbrev S16x14x128 : Shape := ⟨3, ![16, 14, 128]⟩
abbrev S14x16x128 : Shape := ⟨3, ![14, 16, 128]⟩
abbrev S224x128 : Shape := ⟨2, ![224, 128]⟩
abbrev S4x5120 : Shape := ⟨2, ![4, 5120]⟩
abbrev S16x5120 : Shape := ⟨2, ![16, 5120]⟩
abbrev S1x5120 : Shape := ⟨2, ![1, 5120]⟩
abbrev S16x6144 : Shape := ⟨2, ![16, 6144]⟩
abbrev S1x16 : Shape := ⟨2, ![1, 16]⟩
abbrev S4x256 : Shape := ⟨2, ![4, 256]⟩
abbrev S16x256 : Shape := ⟨2, ![16, 256]⟩
abbrev S1x256 : Shape := ⟨2, ![1, 256]⟩
abbrev S256x6144 : Shape := ⟨2, ![256, 6144]⟩
abbrev S16x128 : Shape := ⟨2, ![16, 128]⟩
abbrev S1x128 : Shape := ⟨2, ![1, 128]⟩
abbrev S8x128 : Shape := ⟨2, ![8, 128]⟩
abbrev S8x128x1 : Shape := ⟨3, ![8, 128, 1]⟩
abbrev S256 : Shape := ⟨1, ![256]⟩
abbrev S16x16 : Shape := ⟨2, ![16, 16]⟩
abbrev S16x1 : Shape := ⟨2, ![16, 1]⟩
abbrev S256x16 : Shape := ⟨2, ![256, 16]⟩
abbrev S8x256 : Shape := ⟨2, ![8, 256]⟩
abbrev S256x8 : Shape := ⟨2, ![256, 8]⟩
abbrev S256x1 : Shape := ⟨2, ![256, 1]⟩
abbrev S256x256 : Shape := ⟨2, ![256, 256]⟩

abbrev nBuf : Space → Nat
  | .hbm => 26
  | .vmem => 20
  | .smem => 1
  | _ => 0

abbrev bufTy : (tb : Table) → Fin (tcTables nBuf tb) → BufTy
  | .hbm, ⟨0, _⟩ => ⟨S25600, .f32⟩
  | .hbm, ⟨1, _⟩ => ⟨S5120x4, .i32⟩
  | .hbm, ⟨2, _⟩ => ⟨S5120x4, .i32⟩
  | .hbm, ⟨3, _⟩ => ⟨S5120x16, .f32⟩
  | .hbm, ⟨4, _⟩ => ⟨S5120x6144, .fp8e4m3⟩
  | .hbm, ⟨5, _⟩ => ⟨S5120, .f32⟩
  | .hbm, ⟨6, _⟩ => ⟨S6144x16, .bf16⟩
  | .hbm, ⟨7, _⟩ => ⟨S16, .f32⟩
  | .hbm, ⟨8, _⟩ => ⟨S1, .f32⟩
  | .hbm, ⟨9, _⟩ => ⟨S16x1600, .f32⟩
  | .hbm, ⟨10, _⟩ => ⟨S_, .i32⟩
  | .hbm, ⟨11, _⟩ => ⟨S_, .f32⟩
  | .hbm, ⟨12, _⟩ => ⟨S16x1792, .f32⟩
  | .hbm, ⟨13, _⟩ => ⟨S16x14x128, .f32⟩
  | .hbm, ⟨14, _⟩ => ⟨S14x16x128, .f32⟩
  | .hbm, ⟨15, _⟩ => ⟨S224x128, .f32⟩
  | .hbm, ⟨16, _⟩ => ⟨S4x5120, .i32⟩
  | .hbm, ⟨17, _⟩ => ⟨S4x5120, .i32⟩
  | .hbm, ⟨18, _⟩ => ⟨S16x5120, .f32⟩
  | .hbm, ⟨19, _⟩ => ⟨S1x5120, .f32⟩
  | .hbm, ⟨20, _⟩ => ⟨S16x6144, .bf16⟩
  | .hbm, ⟨21, _⟩ => ⟨S1x16, .f32⟩
  | .hbm, ⟨22, _⟩ => ⟨S5120x6144, .bf16⟩
  | .hbm, ⟨23, _⟩ => ⟨S16x6144, .f32⟩
  | .hbm, ⟨24, _⟩ => ⟨S16x5120, .f32⟩
  | .hbm, ⟨25, _⟩ => ⟨S4x5120, .f32⟩
  | .local _ .vmem, ⟨0, _⟩ => ⟨S224x128, .f32⟩
  | .local _ .vmem, ⟨1, _⟩ => ⟨S4x256, .i32⟩
  | .local _ .vmem, ⟨2, _⟩ => ⟨S4x256, .i32⟩
  | .local _ .vmem, ⟨3, _⟩ => ⟨S4x256, .i32⟩
  | .local _ .vmem, ⟨4, _⟩ => ⟨S4x256, .i32⟩
  | .local _ .vmem, ⟨5, _⟩ => ⟨S16x256, .f32⟩
  | .local _ .vmem, ⟨6, _⟩ => ⟨S16x256, .f32⟩
  | .local _ .vmem, ⟨7, _⟩ => ⟨S1x256, .f32⟩
  | .local _ .vmem, ⟨8, _⟩ => ⟨S1x256, .f32⟩
  | .local _ .vmem, ⟨9, _⟩ => ⟨S256x6144, .fp8e4m3⟩
  | .local _ .vmem, ⟨10, _⟩ => ⟨S256x6144, .fp8e4m3⟩
  | .local _ .vmem, ⟨11, _⟩ => ⟨S16x6144, .bf16⟩
  | .local _ .vmem, ⟨12, _⟩ => ⟨S1x16, .f32⟩
  | .local _ .vmem, ⟨13, _⟩ => ⟨S256x6144, .bf16⟩
  | .local _ .vmem, ⟨14, _⟩ => ⟨S256x6144, .bf16⟩
  | .local _ .vmem, ⟨15, _⟩ => ⟨S16x6144, .f32⟩
  | .local _ .vmem, ⟨16, _⟩ => ⟨S16x256, .f32⟩
  | .local _ .vmem, ⟨17, _⟩ => ⟨S16x256, .f32⟩
  | .local _ .vmem, ⟨18, _⟩ => ⟨S4x256, .f32⟩
  | .local _ .vmem, ⟨19, _⟩ => ⟨S4x256, .f32⟩
  | .local _ .smem, ⟨0, _⟩ => ⟨S1, .f32⟩
  | _, _ => ⟨S25600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg8_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S25600 : Shape := ⟨1, ![25600]⟩
abbrev S5120x4 : Shape := ⟨2, ![5120, 4]⟩
abbrev S5120x16 : Shape := ⟨2, ![5120, 16]⟩
abbrev S5120x6144 : Shape := ⟨2, ![5120, 6144]⟩
abbrev S5120 : Shape := ⟨1, ![5120]⟩
abbrev S6144x16 : Shape := ⟨2, ![6144, 16]⟩
abbrev S16 : Shape := ⟨1, ![16]⟩
abbrev S1 : Shape := ⟨1, ![1]⟩
abbrev S4x5120 : Shape := ⟨2, ![4, 5120]⟩
abbrev S_ : Shape := ⟨0, ![]⟩
abbrev S4x5120x1 : Shape := ⟨3, ![4, 5120, 1]⟩
abbrev S16x5120 : Shape := ⟨2, ![16, 5120]⟩
abbrev S4x1x5120 : Shape := ⟨3, ![4, 1, 5120]⟩
abbrev S1x16x1 : Shape := ⟨3, ![1, 16, 1]⟩
abbrev S4x16x5120 : Shape := ⟨3, ![4, 16, 5120]⟩
abbrev S1x16x5120 : Shape := ⟨3, ![1, 16, 5120]⟩
abbrev S1x5120 : Shape := ⟨2, ![1, 5120]⟩
abbrev S16x1 : Shape := ⟨2, ![16, 1]⟩
abbrev S5120x1 : Shape := ⟨2, ![5120, 1]⟩
abbrev S16x6144 : Shape := ⟨2, ![16, 6144]⟩

abbrev nBuf : Space → Nat
  | .hbm => 123
  | .vmem => 4
  | .smem => 0
  | _ => 0

abbrev bufTy : (tb : Table) → Fin (tcTables nBuf tb) → BufTy
  | .hbm, ⟨0, _⟩ => ⟨S25600, .f32⟩
  | .hbm, ⟨1, _⟩ => ⟨S5120x4, .i32⟩
  | .hbm, ⟨2, _⟩ => ⟨S5120x4, .i32⟩
  | .hbm, ⟨3, _⟩ => ⟨S5120x16, .f32⟩
  | .hbm, ⟨4, _⟩ => ⟨S5120x6144, .fp8e4m3⟩
  | .hbm, ⟨5, _⟩ => ⟨S5120, .f32⟩
  | .hbm, ⟨6, _⟩ => ⟨S6144x16, .bf16⟩
  | .hbm, ⟨7, _⟩ => ⟨S16, .f32⟩
  | .hbm, ⟨8, _⟩ => ⟨S1, .f32⟩
  | .hbm, ⟨9, _⟩ => ⟨S4x5120, .i32⟩
  | .hbm, ⟨10, _⟩ => ⟨S_, .i32⟩
  | .hbm, ⟨11, _⟩ => ⟨S4x5120, .i32⟩
  | .hbm, ⟨12, _⟩ => ⟨S4x5120, .i1⟩
  | .hbm, ⟨13, _⟩ => ⟨S_, .i32⟩
  | .hbm, ⟨14, _⟩ => ⟨S4x5120, .i32⟩
  | .hbm, ⟨15, _⟩ => ⟨S4x5120, .i32⟩
  | .hbm, ⟨16, _⟩ => ⟨S_, .i32⟩
  | .hbm, ⟨17, _⟩ => ⟨S4x5120, .i32⟩
  | .hbm, ⟨18, _⟩ => ⟨S4x5120, .i1⟩
  | .hbm, ⟨19, _⟩ => ⟨S_, .i32⟩
  | .hbm, ⟨20, _⟩ => ⟨S4x5120, .i32⟩
  | .hbm, ⟨21, _⟩ => ⟨S4x5120, .i32⟩
  | .hbm, ⟨22, _⟩ => ⟨S4x5120, .i32⟩
  | .hbm, ⟨23, _⟩ => ⟨S4x5120x1, .i32⟩
  | .hbm, ⟨24, _⟩ => ⟨S4x5120, .f32⟩
  | .hbm, ⟨25, _⟩ => ⟨S_, .f32⟩
  | .hbm, ⟨26, _⟩ => ⟨S_, .f32⟩
  | .hbm, ⟨27, _⟩ => ⟨S4x5120, .f32⟩
  | .hbm, ⟨28, _⟩ => ⟨S4x5120, .f32⟩
  | .hbm, ⟨29, _⟩ => ⟨S4x5120, .i32⟩
  | .hbm, ⟨30, _⟩ => ⟨S16x5120, .f32⟩
  | .hbm, ⟨31, _⟩ => ⟨S16, .i32⟩
  | .hbm, ⟨32, _⟩ => ⟨S4x1x5120, .i32⟩
  | .hbm, ⟨33, _⟩ => ⟨S1x16x1, .i32⟩
  | .hbm, ⟨34, _⟩ => ⟨S4x16x5120, .i32⟩
  | .hbm, ⟨35, _⟩ => ⟨S4x16x5120, .i32⟩
  | .hbm, ⟨36, _⟩ => ⟨S4x16x5120, .i1⟩
  | .hbm, ⟨37, _⟩ => ⟨S16x5120, .f32⟩
  | .hbm, ⟨38, _⟩ => ⟨S16x5120, .f32⟩
  | .hbm, ⟨39, _⟩ => ⟨S_, .f32⟩
  | .hbm, ⟨40, _⟩ => ⟨S16x5120, .f32⟩
  | .hbm, ⟨41, _⟩ => ⟨S16x5120, .f32⟩
  | .hbm, ⟨42, _⟩ => ⟨S_, .f32⟩
  | .hbm, ⟨43, _⟩ => ⟨S16x5120, .f32⟩
  | .hbm, ⟨44, _⟩ => ⟨S16x5120, .f32⟩
  | .hbm, ⟨45, _⟩ => ⟨S1x16x5120, .f32⟩
  | .hbm, ⟨46, _⟩ => ⟨S_, .f32⟩
  | .hbm, ⟨47, _⟩ => ⟨S_, .f32⟩
  | .hbm, ⟨48, _⟩ => ⟨S4x16x5120, .f32⟩
  | .hbm, ⟨49, _⟩ => ⟨S4x16x5120, .f32⟩
  | .hbm, ⟨50, _⟩ => ⟨S4x16x5120, .f32⟩
  | .hbm, ⟨51, _⟩ => ⟨S_, .f32⟩
  | .hbm, ⟨52, _⟩ => ⟨S4x5120, .f32⟩
  | .hbm, ⟨53, _⟩ => ⟨S_, .f32⟩
  | .hbm, ⟨54, _⟩ => ⟨S5120, .f32⟩
  | .hbm, ⟨55, _⟩ => ⟨S1x5120, .f32⟩
  | .hbm, ⟨56, _⟩ => ⟨S_, .f32⟩
  | .hbm, ⟨57, _⟩ => ⟨S1x5120, .f32⟩
  | .hbm, ⟨58, _⟩ => ⟨S1x5120, .f32⟩
  | .hbm, ⟨59, _⟩ => ⟨S_, .f32⟩
  | .hbm, ⟨60, _⟩ => ⟨S1x5120, .f32⟩
  | .hbm, ⟨61, _⟩ => ⟨S1x5120, .f32⟩
  | .hbm, ⟨62, _⟩ => ⟨S4x5120, .f32⟩
  | .hbm, ⟨63, _⟩ => ⟨S_, .f32⟩
  | .hbm, ⟨64, _⟩ => ⟨S5120, .f32⟩
  | .hbm, ⟨65, _⟩ => ⟨S1x5120, .f32⟩
  | .hbm, ⟨66, _⟩ => ⟨S1x5120, .f32⟩
  | .hbm, ⟨67, _⟩ => ⟨S4x5120, .f32⟩
  | .hbm, ⟨68, _⟩ => ⟨S4x5120, .f32⟩
  | .hbm, ⟨69, _⟩ => ⟨S4x5120, .f32⟩
  | .hbm, ⟨70, _⟩ => ⟨S4x5120, .f32⟩
  | .hbm, ⟨71, _⟩ => ⟨S4x5120, .f32⟩
  | .hbm, ⟨72, _⟩ => ⟨S_, .f32⟩
  | .hbm, ⟨73, _⟩ => ⟨S4x5120, .f32⟩
  | .hbm, ⟨74, _⟩ => ⟨S4x5120, .f32⟩
  | .hbm, ⟨75, _⟩ => ⟨S4x5120, .f32⟩
  | .hbm, ⟨76, _⟩ => ⟨S4x1x5120, .f32⟩
  | .hbm, ⟨77, _⟩ => ⟨S_, .f32⟩
  | .hbm, ⟨78, _⟩ => ⟨S_, .f32⟩
  | .hbm, ⟨79, _⟩ => ⟨S4x16x5120, .f32⟩
  | .hbm, ⟨80, _⟩ => ⟨S4x16x5120, .f32⟩
  | .hbm, ⟨81, _⟩ => ⟨S4x16x5120, .f32⟩
  | .hbm, ⟨82, _⟩ => ⟨S_, .f32⟩
  | .hbm, ⟨83, _⟩ => ⟨S16x5120, .f32⟩
  | .hbm, ⟨84, _⟩ => ⟨S_, .f32⟩
  | .hbm, ⟨85, _⟩ => ⟨S1, .f32⟩
  | .hbm, ⟨86, _⟩ => ⟨S1, .f32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16x1, .f32⟩
  | .hbm, ⟨93, _⟩ => ⟨S_, .f32⟩
  | .hbm, ⟨94, _⟩ => ⟨S5120, .f32⟩
  | .hbm, ⟨95, _⟩ => ⟨S1x5120, .f32⟩
  | .hbm, ⟨96, _⟩ => ⟨S_, .f32⟩
  | .hbm, ⟨97, _⟩ => ⟨S1x5120, .f32⟩
  | .hbm, ⟨98, _⟩ => ⟨S1x5120, .f32⟩
  | .hbm, ⟨99, _⟩ => ⟨S16x5120, .f32⟩
  | .hbm, ⟨100, _⟩ => ⟨S16x5120, .f32⟩
  | .hbm, ⟨101, _⟩ => ⟨S16x5120, .f32⟩
  | .hbm, ⟨102, _⟩ => ⟨S16x5120, .f32⟩
  | .hbm, ⟨103, _⟩ => ⟨S_, .f32⟩
  | .hbm, ⟨104, _⟩ => ⟨S5120, .f32⟩
  | .hbm, ⟨105, _⟩ => ⟨S1x5120, .f32⟩
  | .hbm, ⟨106, _⟩ => ⟨S16x5120, .f32⟩
  | .hbm, ⟨107, _⟩ => ⟨S16x5120, .f32⟩
  | .hbm, ⟨108, _⟩ => ⟨S16x5120, .f32⟩
  | .hbm, ⟨109, _⟩ => ⟨S16x5120, .f32⟩
  | .hbm, ⟨110, _⟩ => ⟨S16x5120, .f32⟩
  | .hbm, ⟨111, _⟩ => ⟨S16x5120, .f32⟩
  | .hbm, ⟨112, _⟩ => ⟨S_, .f32⟩
  | .hbm, ⟨113, _⟩ => ⟨S16x5120, .f32⟩
  | .hbm, ⟨114, _⟩ => ⟨S16x5120, .f32⟩
  | .hbm, ⟨115, _⟩ => ⟨S16x5120, .f32⟩
  | .hbm, ⟨116, _⟩ => ⟨S16x5120, .f32⟩
  | .hbm, ⟨117, _⟩ => ⟨S5120x16, .f32⟩
  | .hbm, ⟨118, _⟩ => ⟨S5120x16, .bf16⟩
  | .hbm, ⟨119, _⟩ => ⟨S5120x6144, .f32⟩
  | .hbm, ⟨120, _⟩ => ⟨S5120x6144, .bf16⟩
  | .hbm, ⟨121, _⟩ => ⟨S5120x1, .f32⟩
  | .hbm, ⟨122, _⟩ => ⟨S16x6144, .f32⟩
  | .local _ .vmem, ⟨0, _⟩ => ⟨S5120x16, .bf16⟩
  | .local _ .vmem, ⟨1, _⟩ => ⟨S5120x6144, .fp8e4m3⟩
  | .local _ .vmem, ⟨2, _⟩ => ⟨S5120x1, .f32⟩
  | .local _ .vmem, ⟨3, _⟩ => ⟨S16x6144, .f32⟩
  | _, _ => ⟨S25600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_cst_17 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5120x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Plan.lean ====
abbrev S16x1600 : Shape := ⟨2, ![16, 1600]⟩
abbrev S800x128 : Shape := ⟨2, ![800, 128]⟩
abbrev S8x896 : Shape := ⟨2, ![8, 896]⟩
abbrev S896x128 : Shape := ⟨2, ![896, 128]⟩
abbrev S16x32 : Shape := ⟨2, ![16, 32]⟩
abbrev S800x32 : Shape := ⟨2, ![800, 32]⟩
abbrev S800x64 : Shape := ⟨2, ![800, 64]⟩
abbrev S800x1 : Shape := ⟨2, ![800, 1]⟩
abbrev S800 : Shape := ⟨1, ![800]⟩
abbrev S128x128 : Shape := ⟨2, ![128, 128]⟩
abbrev S1x128 : Shape := ⟨2, ![1, 128]⟩
abbrev S1 : Shape := ⟨1, ![1]⟩
abbrev S1x1 : Shape := ⟨2, ![1, 1]⟩
abbrev S128 : Shape := ⟨1, ![128]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S16x1600, .i32⟩
  | .hbm, ⟨1, _⟩ => ⟨S16x1600, .f32⟩
  | .hbm, ⟨2, _⟩ => ⟨S800x128, .f32⟩
  | .hbm, ⟨3, _⟩ => ⟨S8x896, .i32⟩
  | .local _ .vmem, ⟨0, _⟩ => ⟨S16x1600, .i32⟩
  | .local _ .vmem, ⟨1, _⟩ => ⟨S16x1600, .f32⟩
  | .local _ .vmem, ⟨2, _⟩ => ⟨S800x128, .f32⟩
  | .local _ .vmem, ⟨3, _⟩ => ⟨S8x896, .i32⟩
  | .local _ .vmem, ⟨4, _⟩ => ⟨S896x128, .i32⟩
  | _, _ => ⟨S16x1600, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1600 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S800x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x896 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PlanReferenceIdeal.lean ====
abbrev S16x1600 : Shape := ⟨2, ![16, 1600]⟩
abbrev S_ : Shape := ⟨0, ![]⟩
abbrev S16x50x32 : Shape := ⟨3, ![16, 50, 32]⟩
abbrev S50x16x32 : Shape := ⟨3, ![50, 16, 32]⟩
abbrev S800x32 : Shape := ⟨2, ![800, 32]⟩
abbrev S800x64 : Shape := ⟨2, ![800, 64]⟩
abbrev S800x128 : Shape := ⟨2, ![800, 128]⟩

abbrev nBuf : Space → Nat
  | .hbm => 41
  | .vmem => 0
  | .smem => 0
  | _ => 0

abbrev bufTy : (tb : Table) → Fin (tcTables nBuf tb) → BufTy
  | .hbm, ⟨0, _⟩ => ⟨S16x1600, .i32⟩
  | .hbm, ⟨1, _⟩ => ⟨S16x1600, .f32⟩
  | .hbm, ⟨2, _⟩ => ⟨S_, .i32⟩
  | .hbm, ⟨3, _⟩ => ⟨S16x1600, .i32⟩
  | .hbm, ⟨4, _⟩ => ⟨S16x1600, .i1⟩
  | .hbm, ⟨5, _⟩ => ⟨S_, .i32⟩
  | .hbm, ⟨6, _⟩ => ⟨S_, .i32⟩
  | .hbm, ⟨7, _⟩ => ⟨S16x1600, .i32⟩
  | .hbm, ⟨8, _⟩ => ⟨S16x1600, .i32⟩
  | .hbm, ⟨9, _⟩ => ⟨S16x1600, .i32⟩
  | .hbm, ⟨10, _⟩ => ⟨S_, .i32⟩
  | .hbm, ⟨11, _⟩ => ⟨S16x1600, .i32⟩
  | .hbm, ⟨12, _⟩ => ⟨S16x1600, .i1⟩
  | .hbm, ⟨13, _⟩ => ⟨S16x1600, .i32⟩
  | .hbm, ⟨14, _⟩ => ⟨S16x1600, .i32⟩
  | .hbm, ⟨15, _⟩ => ⟨S_, .i32⟩
  | .hbm, ⟨16, _⟩ => ⟨S16x1600, .i32⟩
  | .hbm, ⟨17, _⟩ => ⟨S16x1600, .i1⟩
  | .hbm, ⟨18, _⟩ => ⟨S16x1600, .i1⟩
  | .hbm, ⟨19, _⟩ => ⟨S_, .i32⟩
  | .hbm, ⟨20, _⟩ => ⟨S16x1600, .i32⟩
  | .hbm, ⟨21, _⟩ => ⟨S16x1600, .i32⟩
  | .hbm, ⟨22, _⟩ => ⟨S16x1600, .i32⟩
  | .hbm, ⟨23, _⟩ => ⟨S_, .i32⟩
  | .hbm, ⟨24, _⟩ => ⟨S_, .i32⟩
  | .hbm, ⟨25, _⟩ => ⟨S16x1600, .i32⟩
  | .hbm, ⟨26, _⟩ => ⟨S16x1600, .i32⟩
  | .hbm, ⟨27, _⟩ => ⟨S16x1600, .f32⟩
  | .hbm, ⟨28, _⟩ => ⟨S_, .f32⟩
  | .hbm, ⟨29, _⟩ => ⟨S_, .f32⟩
  | .hbm, ⟨30, _⟩ => ⟨S16x1600, .f32⟩
  | .hbm, ⟨31, _⟩ => ⟨S16x1600, .f32⟩
  | .hbm, ⟨32, _⟩ => ⟨S16x50x32, .f32⟩
  | .hbm, ⟨33, _⟩ => ⟨S50x16x32, .f32⟩
  | .hbm, ⟨34, _⟩ => ⟨S800x32, .f32⟩
  | .hbm, ⟨35, _⟩ => ⟨S16x50x32, .f32⟩
  | .hbm, ⟨36, _⟩ => ⟨S50x16x32, .f32⟩
  | .hbm, ⟨37, _⟩ => ⟨S800x32, .f32⟩
  | .hbm, ⟨38, _⟩ => ⟨S_, .f32⟩
  | .hbm, ⟨39, _⟩ => ⟨S800x64, .f32⟩
  | .hbm, ⟨40, _⟩ => ⟨S800x128, .f32⟩
  | _, _ => ⟨S16x1600, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩

abbrev nD : Nat := 1
abbrev τ : Topo := Topo.v7x

variable {F : FTy → Type} [FloatOps F]
-- ==== Proof.HostK.lean ====
/- The arrays that the router kernel's windows read, at an index: the words of the tile layout, and the transposed and
   reshaped arguments. -/
module

public import proofs.«01_k».proof.Proof.Gen.KernelIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.KernelIdeal.RefValue

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The host's arrays -/

/-- Tile `q`, row `e`, lane `b` of the tile array: slot `128 * q + b` of expert `e`, or zero past the expert's 1600 slots. -/
theorem v4_eq (q : Fin 14) (e : Fin 16) (b : Fin 128) (h : q.val * 128 + b.val < 1600) :
    (V m c main_v4 : S224x128.Idx → EReal) (ix2 ⟨16 * q.val + e.val, by omega⟩ b)
      = (m ((c : Thread nD τ).loc main_arg0) : S25600.Idx → EReal) (ix1 ⟨e.val * 1600 + (q.val * 128 + b.val), by omega⟩) := by
  simp only [V, hostOps0, hostOps0_1, hostOps0_2, List.flatten_cons, List.flatten_nil, List.append_nil, List.cons_append,
      List.nil_append]
  after_reads_at
  exact dif_pos h

/-- The word of the tile array that holds slot `r` of expert `e`: tile `r / 128`, row `e`, lane `r % 128`. -/
theorem v4_apply (e : Fin 16) (r : Fin 1600) :
    (V m c main_v4 : S224x128.Idx → EReal) (ix2 ⟨16 * (r.val / 128) + e.val, by omega⟩ ⟨r.val % 128, by omega⟩)
      = (m ((c : Thread nD τ).loc main_arg0) : S25600.Idx → EReal) (ix1 ⟨1600 * e.val + r.val, by omega⟩) := by
  rw [v4_eq m c ⟨r.val / 128, by omega⟩ e ⟨r.val % 128, by omega⟩ (by dsimp only; omega)]
  congr 2
  apply Fin.ext
  dsimp only
  omega

/-- The slots, transposed. -/
theorem v5_apply (k : Fin 4) (T : Fin 5120) :
    (V m c main_v5 : S4x5120.Idx → BitVec 32) (ix2 k T) = (m ((c : Thread nD τ).loc main_arg1) : S5120x4.Idx → BitVec 32) (ix2 T k) := by
  simp only [V, hostOps0, hostOps0_1, hostOps0_2, List.flatten_cons, List.flatten_nil, List.append_nil, List.cons_append,
      List.nil_append]
  after_reads_at

/-- The expert ids, transposed. -/
theorem v6_apply (k : Fin 4) (T : Fin 5120) :
    (V m c main_v6 : S4x5120.Idx → BitVec 32) (ix2 k T) = (m ((c : Thread nD τ).loc main_arg2) : S5120x4.Idx → BitVec 32) (ix2 T k) := by
  simp only [V, hostOps0, hostOps0_1, hostOps0_2, List.flatten_cons, List.flatten_nil, List.append_nil, List.cons_append,
      List.nil_append]
  after_reads_at

/-- The logits, transposed. -/
theorem v7_apply (e : Fin 16) (T : Fin 5120) :
    (V m c main_v7 : S16x5120.Idx → EReal) (ix2 e T) = (m ((c : Thread nD τ).loc main_arg3) : S5120x16.Idx → EReal) (ix2 T e) := by
  simp only [V, hostOps0, hostOps0_1, hostOps0_2, List.flatten_cons, List.flatten_nil, List.append_nil, List.cons_append,
      List.nil_append]
  after_reads_at

/-- The inputs' scales, as a row. -/
theorem v8_apply (T : Fin 5120) :
    (V m c main_v8 : S1x5120.Idx → EReal) (ix2 0 T) = (m ((c : Thread nD τ).loc main_arg5) : S5120.Idx → EReal) (ix1 T) := by
  simp only [V, hostOps0, hostOps0_1, hostOps0_2, List.flatten_cons, List.flatten_nil, List.append_nil, List.cons_append,
      List.nil_append]
  after_reads_at

/-- The router's weights, transposed. -/
theorem v9_apply (e : Fin 16) (d : Fin 6144) :
    (V m c main_v9 : S16x6144.Idx → EReal) (ix2 e d) = (m ((c : Thread nD τ).loc main_arg6) : S6144x16.Idx → EReal) (ix2 d e) := by
  simp only [V, hostOps0, hostOps0_1, hostOps0_2, List.flatten_cons, List.flatten_nil, List.append_nil, List.cons_append,
      List.nil_append]
  after_reads_at

/-- The experts' loads, as a row. -/
theorem v10_apply (e : Fin 16) :
    (V m c main_v10 : S1x16.Idx → EReal) (ix2 0 e) = (m ((c : Thread nD τ).loc main_arg7) : S16.Idx → EReal) (ix1 e) := by
  simp only [V, hostOps0, hostOps0_1, hostOps0_2, List.flatten_cons, List.flatten_nil, List.append_nil, List.cons_append,
      List.nil_append]
  after_reads_at

/-! ## The blocks that the body loads at grid point `t` -/

/-- Token `l` of grid point `t`'s 256. -/
def tok (t : ℕ) (l : Fin 256) : Fin 5120 := ⟨(256 * t + l.val) % 5120, Nat.mod_lt _ (by omega)⟩

/-- Every window's block index at every point. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![t.val, 0] ∧ win0_6.index t = ![0, 0]
    ∧ win0_7.index t = ![0, 0] ∧ win0_8.index t = ![0] ∧ win0_9.index t = ![t.val, 0] ∧ win0_10.index t = ![0, 0]
    ∧ win0_11.index t = ![0, t.val] ∧ win0_12.index t = ![0, t.val] :=
  (by decide +kernel : ∀ t : Fin grid0.N, _)

/-- The grid has twenty points. -/
theorem pt_lt (t : Fin cfg0.N) : t.val < 20 := lt_of_lt_of_eq t.isLt Gen.N_0

/-- A point's token, without the wrap. -/
theorem tok_val (t : Fin cfg0.N) (l : Fin 256) : (tok t.val l).val = 256 * t.val + l.val :=
  Nat.mod_eq_of_lt (by have := pt_lt t; omega)

/-- The tile array's block is the whole array. -/
theorem blk0 (t : Fin cfg0.N) (e : Fin 16) (r : Fin 1600) :
    (iblk m c 0 t : S224x128.Idx → EReal) (ix2 ⟨16 * (r.val / 128) + e.val, by omega⟩ ⟨r.val % 128, by omega⟩)
      = (m ((c : Thread nD τ).loc main_arg0) : S25600.Idx → EReal) (ix1 ⟨1600 * e.val + r.val, by omega⟩) := by
  refine Eq.trans ?_ (v4_apply m c e r)
  blk_ext [iblk, idx t]

/-- The slots of the point's tokens. -/
theorem blk1 (t : Fin cfg0.N) (k : Fin 4) (l : Fin 256) :
    (iblk m c 1 t : S4x256.Idx → BitVec 32) (ix2 k l)
      = (m ((c : Thread nD τ).loc main_arg1) : S5120x4.Idx → BitVec 32) (ix2 (tok t.val l) k) := by
  refine Eq.trans ?_ (v5_apply m c k (tok t.val l))
  have h := tok_val t l
  blk_ext [iblk, idx t, h]

/-- The expert ids of the point's tokens. -/
theorem blk2 (t : Fin cfg0.N) (k : Fin 4) (l : Fin 256) :
    (iblk m c 2 t : S4x256.Idx → BitVec 32) (ix2 k l)
      = (m ((c : Thread nD τ).loc main_arg2) : S5120x4.Idx → BitVec 32) (ix2 (tok t.val l) k) := by
  refine Eq.trans ?_ (v6_apply m c k (tok t.val l))
  have h := tok_val t l
  blk_ext [iblk, idx t, h]

/-- The logits of the point's tokens. -/
theorem blk3 (t : Fin cfg0.N) (e : Fin 16) (l : Fin 256) :
    (iblk m c 3 t : S16x256.Idx → EReal) (ix2 e l)
      = (m ((c : Thread nD τ).loc main_arg3) : S5120x16.Idx → EReal) (ix2 (tok t.val l) e) := by
  refine Eq.trans ?_ (v7_apply m c e (tok t.val l))
  have h := tok_val t l
  blk_ext [iblk, idx t, h]

/-- The scales of the point's tokens. -/
theorem blk4 (t : Fin cfg0.N) (l : Fin 256) :
    (iblk m c 4 t : S1x256.Idx → EReal) (ix2 0 l)
      = (m ((c : Thread nD τ).loc main_arg5) : S5120.Idx → EReal) (ix1 (tok t.val l)) := by
  refine Eq.trans ?_ (v8_apply m c (tok t.val l))
  have h := tok_val t l
  blk_ext [iblk, idx t, h]

/-- The inputs' codes of the point's tokens. -/
theorem blk5 (t : Fin cfg0.N) (l : Fin 256) (d : Fin 6144) :
    (iblk m c 5 t : S256x6144.Idx → EReal) (ix2 l d)
      = (m ((c : Thread nD τ).loc main_arg4) : S5120x6144.Idx → EReal) (ix2 (tok t.val l) d) := by
  have h := tok_val t l
  blk_ext [iblk, idx t, h, V]

/-- The router's weights, whole. -/
theorem blk6 (t : Fin cfg0.N) (e : Fin 16) (d : Fin 6144) :
    (iblk m c 6 t : S16x6144.Idx → EReal) (ix2 e d)
      = (m ((c : Thread nD τ).loc main_arg6) : S6144x16.Idx → EReal) (ix2 d e) := by
  refine Eq.trans ?_ (v9_apply m c e d)
  blk_ext [iblk, idx t]

/-- The experts' loads, whole. -/
theorem blk7 (t : Fin cfg0.N) (e : Fin 16) :
    (iblk m c 7 t : S1x16.Idx → EReal) (ix2 0 e)
      = (m ((c : Thread nD τ).loc main_arg7) : S16.Idx → EReal) (ix1 e) := by
  refine Eq.trans ?_ (v10_apply m c e)
  blk_ext [iblk, idx t]

/-- The balance weight. -/
theorem blk8 (t : Fin cfg0.N) (i : S1.Idx) :
    (iblk m c 8 t : S1.Idx → EReal) (i)
      = (m ((c : Thread nD τ).loc main_arg8) : S1.Idx → EReal) (i) := by
  blk_ext [iblk, idx t, V]

end Cert.KernelIdeal.RefValue

end
-- ==== Proof.Words.lean ====
/- What the router kernel's body computes at one grid point, written once as named functions of the words it loads: the
   index block of an expert's rows (`place`), the selection of a row's word among thirteen lane tiles (`pick`), the
   gathered block (`gathered`), and the column arithmetic of the router's backward pass (`dlOf`). The generated run
   names the same values by their position in the printed body; each lemma here says which function such a name is. -/
module

public import proofs.«01_k».proof.Proof.Gen.KernelIdeal.Value

@[expose] public section

set_option maxRecDepth 16384

noncomputable section

namespace Cert.KernelIdeal.RefValue

open Idealize.ShloMosaic Idealize.ShloMosaic.TcCoe Idealize.SL.Sem
open Cert.KernelIdeal Cert.KernelIdeal.Gen

variable {F : FTy → Type} [FloatOps F]

/-! ## The selection of a row's word -/

/-- Floor division by 128, as the body spells it: the truncated quotient, one less where signs differ and a remainder is left. -/
def fdiv (c : IVec S8x128 32) : IVec S8x128 32 :=
  select
    (andi
      (cmpi .ne
        (subi (extui 32 (cmpi .sgt c (broadcast S8x128 0#32)) natLt_1_32)
          (extui 32 (cmpi .slt c (broadcast S8x128 0#32)) natLt_1_32))
        (broadcast S8x128 1#32))
      (cmpi .ne (remsi c (broadcast S8x128 128#32)) (broadcast S8x128 0#32)))
    (subi (divsi c (broadcast S8x128 128#32)) (broadcast S8x128 1#32))
    (divsi c (broadcast S8x128 128#32))

/-- The remainder of that division: the truncated remainder, 128 more where it is negative. -/
def frem (c : IVec S8x128 32) : IVec S8x128 32 :=
  select
    (andi
      (xori (cmpi .slt (remsi c (broadcast S8x128 128#32)) (broadcast S8x128 0#32))
        (broadcastTo S8x128 (broadcast S8x128 0#1) broadcasts_S8x128_S8x128))
      (cmpi .ne (remsi c (broadcast S8x128 128#32)) (broadcast S8x128 0#32)))
    (addi (remsi c (broadcast S8x128 128#32)) (broadcast S8x128 128#32))
    (remsi c (broadcast S8x128 128#32))

/-- The lane index of a gather: the remainder, 128 more where it is negative, through a column shape and back. -/
def lane (c : IVec S8x128 32) : IVec S8x128 32 :=
  shapeCast S8x128
    (shapeCast S8x128x1
      (select (cmpi .slt (frem c) (broadcast S8x128 0#32)) (addi (frem c) (broadcast S8x128 128#32)) (frem c))
      shapeCasts_S8x128_S8x128x1)
    shapeCasts_S8x128x1_S8x128

/-- One step of the selection: where the row lies in lane tile `q`, its word of that tile `d`; elsewhere what was selected before. -/
def pickStep (c : IVec S8x128 32) (q : BitVec 32) (d v : FVec F S8x128 .f32) : FVec F S8x128 .f32 :=
  select (cmpi .eq (fdiv c) (broadcast S8x128 q)) (dynamicGather 1 d (lane c)) v

/-- The zero block the selection starts from. -/
abbrev zero8 : FVec F S8x128 .f32 := broadcast S8x128 (Scalar.ofBits .f32 0x00000000#32)

/-- The word of row `c` among the thirteen lane tiles `d`. -/
def pick (c : IVec S8x128 32) (d : Fin 13 → FVec F S8x128 .f32) : FVec F S8x128 .f32 :=
  pickStep c 12#32 (d 12) <| pickStep c 11#32 (d 11) <| pickStep c 10#32 (d 10) <| pickStep c 9#32 (d 9) <|
  pickStep c 8#32 (d 8) <| pickStep c 7#32 (d 7) <| pickStep c 6#32 (d 6) <| pickStep c 5#32 (d 5) <|
  pickStep c 4#32 (d 4) <| pickStep c 3#32 (d 3) <| pickStep c 2#32 (d 2) <| pickStep c 1#32 (d 1) <|
  pickStep c 0#32 (d 0) zero8

/-- The experts' numbers down a half block. -/
abbrev expert : IVec S16x128 32 := iota .tc S16x128 32 [0] iota_S16x128_d0_w32

/-- One step of placing: where the choice's expert is the row's, the slot less the expert's first row; elsewhere as before. -/
def placeStep (id sl : Vec F S1x128 .i32) (v : IVec S16x128 32) : IVec S16x128 32 :=
  select (cmpi .eq (broadcastTo S16x128 (shapeCast S1x128 id shapeCasts_S1x128_S1x128) broadcasts_S1x128_S16x128) expert)
    (subi (broadcastTo S16x128 (shapeCast S1x128 sl shapeCasts_S1x128_S1x128) broadcasts_S1x128_S16x128)
      (muli expert (broadcast S16x128 1600#32)))
    v

/-- For every expert and token of a half block, the row of the expert that the token's choice of it occupies (0 where there is none). -/
def place (id sl : Fin 4 → Vec F S1x128 .i32) : IVec S16x128 32 :=
  maxsi
    (placeStep (id 3) (sl 3) <| placeStep (id 2) (sl 2) <| placeStep (id 1) (sl 1) <| placeStep (id 0) (sl 0) <|
      broadcast S16x128 0#32)
    (broadcast S16x128 0#32)

/-- A half block of gathered words: experts 0–7 from the tiles `d 0`, experts 8–15 from the tiles `d 1`. -/
def half (c : IVec S16x128 32) (d : Fin 2 → Fin 13 → FVec F S8x128 .f32) : FVec F S16x128 .f32 :=
  concatenate S16x128 0
    [⟨S8x128, pick (extractStridedSlice S8x128 ![0, 0] c slices_S16x128_o0_0_S8x128) (d 0)⟩,
      ⟨S8x128, pick (extractStridedSlice S8x128 ![8, 0] c slices_S16x128_o8_0_S8x128) (d 1)⟩]
    concatenates_S8x128_S8x128_S16x128_d0

/-- The block of gathered words. -/
def gathered (id sl : Fin 2 → Fin 4 → Vec F S1x128 .i32) (d : Fin 2 → Fin 13 → FVec F S8x128 .f32) : FVec F S16x256 .f32 :=
  concatenate S16x256 1
    [⟨S16x128, half (place (id 0) (sl 0)) d⟩, ⟨S16x128, half (place (id 1) (sl 1)) d⟩]
    concatenates_S16x128_S16x128_S16x256_d1

/-! ## The column arithmetic -/

/-- Where the choice's expert is the row's. -/
def chosen (id : Vec F S1x256 .i32) : IVec S16x256 1 :=
  cmpi .eq (broadcastTo S16x256 (shapeCast S1x256 id shapeCasts_S1x256_S1x256) broadcasts_S1x256_S16x256)
    (iota .tc S16x256 32 [0] iota_S16x256_d0_w32)

/-- The sum down a block's column. -/
def colSum (v : FVec F S16x256 .f32) : FVec F S1x256 .f32 :=
  shapeCast S1x256 (multiReduction .add [0] S256 v 0x00000000#32 reduces_S16x256_S256 (.inl rfl) rfl) shapeCasts_S256_S1x256

/-- The chosen expert's entry of a block, one per token. -/
def entryOf (id : Vec F S1x256 .i32) (v : FVec F S16x256 .f32) : FVec F S1x256 .f32 :=
  colSum (select (chosen id) v (broadcast S16x256 (Scalar.ofBits .f32 0x00000000#32)))

/-- One choice's weight gradient: its gathered word where it has a slot, zero elsewhere. -/
def dwOf (id sl : Vec F S1x256 .i32) (w : FVec F S16x256 .f32) : FVec F S1x256 .f32 :=
  select (cmpi .sge (shapeCast S1x256 sl shapeCasts_S1x256_S1x256) (broadcast S1x256 0#32)) (entryOf id w)
    (broadcast S1x256 (Scalar.ofBits .f32 0x00000000#32))

/-- The normalised scores' denominator. -/
def sumOf (g : Fin 4 → FVec F S1x256 .f32) : FVec F S1x256 .f32 :=
  addf (addf (addf (addf (g 0) (g 1)) (g 2)) (g 3)) (broadcast S1x256 (Scalar.ofBits .f32 0x1E3CE508#32))

/-- The weight gradients' mean under the normalised scores. -/
def meanOf (dw g : Fin 4 → FVec F S1x256 .f32) : FVec F S1x256 .f32 :=
  divf (addf (addf (addf (mulf (dw 0) (g 0)) (mulf (dw 1) (g 1))) (mulf (dw 2) (g 2))) (mulf (dw 3) (g 3))) (sumOf g)

/-- One choice's part of the routing gradient. -/
def dselOf (S mean dw g : FVec F S1x256 .f32) : FVec F S1x256 .f32 :=
  mulf (mulf (mulf (divf (broadcast S1x256 (Scalar.ofBits .f32 0x40200000#32)) S) (subf dw mean)) g)
    (subf (broadcast S1x256 (Scalar.ofBits .f32 0x3F800000#32)) g)

/-- That part put on the chosen expert's row, on top of `v`. -/
def routeStep (id : Vec F S1x256 .i32) (x : FVec F S1x256 .f32) (v : FVec F S16x256 .f32) : FVec F S16x256 .f32 :=
  addf v
    (select (chosen id)
      (broadcastTo S16x256 (shapeCast S1x256 x shapeCasts_S1x256_S1x256) broadcasts_S1x256_S16x256)
      (broadcast S16x256 (Scalar.ofBits .f32 0x00000000#32)))

/-- The routing gradient of a block. -/
def routeOf (id sl : Fin 4 → Vec F S1x256 .i32) (w s : FVec F S16x256 .f32) : FVec F S16x256 .f32 :=
  have g := fun k => entryOf (id k) s
  have dw := fun k => dwOf (id k) (sl k) w
  have x := fun k => dselOf (sumOf g) (meanOf dw g) (dw k) (g k)
  routeStep (id 3) (x 3) <| routeStep (id 2) (x 2) <| routeStep (id 1) (x 1) <| routeStep (id 0) (x 0) <|
    broadcast S16x256 (Scalar.ofBits .f32 0x00000000#32)

/-- The balance term's weight of each expert, as a column. -/
def balance (aux : F .f32) (f : Vec F S1x16 .f32) : FVec F S16x1 .f32 :=
  shapeCast S16x1
    (multiReduction .add [1] S16
      (select (cmpi .eq (iota .tc S16x16 32 [0] iota_S16x16_d0_w32) (iota .tc S16x16 32 [1] iota_S16x16_d1_w32))
        (broadcastTo S16x16
          (shapeCast S1x16
            (divf
              (mulf (broadcast S1x16 (Scalar.mulf aux (Scalar.ofBits .f32 0x41800000#32))) (shapeCast S1x16 f shapeCasts_S1x16_S1x16))
              (broadcast S1x16 (Scalar.ofBits .f32 0x45A00000#32)))
            shapeCasts_S1x16_S1x16)
          broadcasts_S1x16_S16x16)
        (broadcast S16x16 (Scalar.ofBits .f32 0x00000000#32)))
      0x00000000#32 reduces_S16x16_S16 (.inl rfl) rfl)
    shapeCasts_S16_S16x1

/-- The scores' denominator over all experts, on every row. -/
def totalOf (s : FVec F S16x256 .f32) : FVec F S16x256 .f32 :=
  broadcastTo S16x256 (addf (colSum s) (broadcast S1x256 (Scalar.ofBits .f32 0x1E3CE508#32))) broadcasts_S1x256_S16x256

/-- The balance term's gradient of a block. -/
def auxOf (A : FVec F S16x1 .f32) (s : FVec F S16x256 .f32) : FVec F S16x256 .f32 :=
  mulf
    (mulf
      (divf
        (subf (broadcastTo S16x256 A broadcasts_S16x1_S16x256)
          (broadcastTo S16x256 (colSum (mulf (broadcastTo S16x256 A broadcasts_S16x1_S16x256) (divf s (totalOf s))))
            broadcasts_S1x256_S16x256))
        (totalOf s))
      s)
    (subf (broadcast S16x256 (Scalar.ofBits .f32 0x3F800000#32)) s)

/-- The gradient of the logits of a block. -/
def dlOf (id sl : Fin 4 → Vec F S1x256 .i32) (w : FVec F S16x256 .f32) (z : Vec F S16x256 .f32) (aux : F .f32) (f : Vec F S1x16 .f32) :
    FVec F S16x256 .f32 :=
  have s := logistic (shapeCast S16x256 z shapeCasts_S16x256_S16x256)
  addf (routeOf id sl w s) (auxOf (balance aux f) s)

/-- The tokens' scales as a column. -/
def scaleOf (x : Vec F S1x256 .f32) : FVec F S256x1 .bf16 := k0_pay284 x

/-- One column group of the inputs' gradient: the logits' gradient, transposed, times the weights. -/
def dxOf (dl : FVec F S16x256 .f32) (w : Vec F S16x256 .bf16) : FVec F S256x256 .bf16 :=
  k0_pay288 (truncf .bf16 (transpose S256x16 [1, 0] dl transposes_S16x256_p1_0_S256x16) bitsLt_bf16_f32) w

/-- One column group of the weights' gradient: what it held, plus the logits' gradient times the scaled inputs. -/
def dwrOf (dl : FVec F S16x256 .f32) (xs : Vec F S1x256 .f32) (codes : Vec F S256x256 .fp8e4m3) (acc : Vec F S16x256 .f32) :
    FVec F S16x256 .f32 :=
  k0_pay287 (truncf .bf16 dl bitsLt_bf16_f32) (scaleOf xs) codes acc

/-! ## The loads -/

section Loads
variable (c : Dev nD) (arg1 : Memref sig .tc .vmem S224x128 .f32) (harg1 : arg1.IsWhole)
  (argi : Memref sig .tc .vmem S4x256 .i32) (hargi : argi.IsWhole)

/-- Lane tile `q` of experts `8 g` to `8 g + 7`. -/
def tile (x0 : Vec F S224x128 .f32) (g : Fin 2) (q : Fin 13) : FVec F S8x128 .f32 :=
  shapeCast S8x128
    (View.readAt (Elt F) arg1.view
      (Rect.unit (s := S224x128) ![16 * q.val + 8 * g.val, 0] S8x128.size
        (fun a => by revert q g; revert a; decide +kernel)).toLoadRect (harg1.unread x0))
    shapeCasts_S8x128_S8x128

/-- Choice `k` of the tokens of half `h`. -/
def row128 (x : Vec F S4x256 .i32) (h : Fin 2) (k : Fin 4) : Vec F S1x128 .i32 :=
  View.readAt (Elt F) argi.view
    (Rect.unit (s := S4x256) ![k.val, 128 * h.val] S1x128.size (fun a => by revert k h; revert a; decide +kernel)).toLoadRect
    (hargi.unread x)

/-- Choice `k` of the block's tokens. -/
def row256 (x : Vec F S4x256 .i32) (k : Fin 4) : Vec F S1x256 .i32 :=
  View.readAt (Elt F) argi.view
    (Rect.unit (s := S4x256) ![k.val, 0] S1x256.size (fun a => by revert k; revert a; decide +kernel)).toLoadRect
    (hargi.unread x)

end Loads

section Stages
variable (c : Dev nD) (arg1 : Memref sig .tc .vmem S224x128 .f32) (harg1 : arg1.IsWhole)
  (arg2 : Memref sig .tc .vmem S4x256 .i32) (harg2 : arg2.IsWhole) (arg3 : Memref sig .tc .vmem S4x256 .i32) (harg3 : arg3.IsWhole)
  (arg4 : Memref sig .tc .vmem S16x256 .f32) (harg4 : arg4.IsWhole) (arg8 : Memref sig .tc .vmem S1x16 .f32) (harg8 : arg8.IsWhole)
  (arg9 : Memref sig .tc .smem S1 .f32) (harg9 : arg9.IsWhole)
  (x0 : Vec F S224x128 .f32) (x1 x2 : Vec F S4x256 .i32) (x3 : Vec F S16x256 .f32) (x7 : Vec F S1x16 .f32) (x8 : Vec F S1 .f32)

/-- The gathered block of the loaded words. -/
def gatheredAt : FVec F S16x256 .f32 := gathered (row128 arg3 harg3 x2) (row128 arg2 harg2 x1) (tile arg1 harg1 x0)

/-- The gradient of the logits from the loaded words. -/
def dlAt : FVec F S16x256 .f32 :=
  dlOf (row256 arg3 harg3 x2) (row256 arg2 harg2 x1) (gatheredAt arg1 harg1 arg2 harg2 arg3 harg3 x0 x1 x2)
    (View.readAt (Elt F) arg4.view (Rect.unit ![0, 0] S16x256.size inb_S16x256_S16x256_0_0).toLoadRect (harg4.unread x3))
    (View.readAt (Elt F) arg9.view (Rect.unit ![0] S1.size inb_S1_S1_0).toLoadRect (harg9.unread x8) (Shape.Idx.first (by decide +kernel)))
    (View.readAt (Elt F) arg8.view (Rect.unit ![0, 0] S1x16.size inb_S1x16_S1x16_0_0).toLoadRect (harg8.unread x7))

/-- The gathered entries at the points after the first. -/
theorem gathered_B : kernelRun0_B.sl.r_34 c arg1 harg1 arg2 harg2 arg3 harg3 x0 x1 x2
    = gatheredAt arg1 harg1 arg2 harg2 arg3 harg3 x0 x1 x2 := rfl

/-- The gathered entries at the first point. -/
theorem gathered_A : kernelRun0_A.sl.r_34 c arg1 harg1 arg2 harg2 arg3 harg3 x0 x1 x2
    = gatheredAt arg1 harg1 arg2 harg2 arg3 harg3 x0 x1 x2 := rfl

/-- The logits' gradient at the points after the first. -/
theorem dl_B : k0_pay281 (kernelRun0_B.sl.r_35 c arg4 harg4 x3)
    (kernelRun0_B.sl.r_54 c arg1 harg1 arg2 harg2 arg3 harg3 arg4 harg4 x0 x1 x2 x3) k0_pay279 kernelRun0_B.sl.cst_1008
    (kernelRun0_B.sl.r_55 c arg8 harg8 arg9 harg9 x7 x8)
    = dlAt arg1 harg1 arg2 harg2 arg3 harg3 arg4 harg4 arg8 harg8 arg9 harg9 x0 x1 x2 x3 x7 x8 := rfl

/-- The logits' gradient at the first point. -/
theorem dl_A : k0_pay281 (kernelRun0_A.sl.r_35 c arg4 harg4 x3)
    (kernelRun0_A.sl.r_54 c arg1 harg1 arg2 harg2 arg3 harg3 arg4 harg4 x0 x1 x2 x3) k0_pay279 kernelRun0_A.sl.cst_1008
    (kernelRun0_A.sl.r_55 c arg8 harg8 arg9 harg9 x7 x8)
    = dlAt arg1 harg1 arg2 harg2 arg3 harg3 arg4 harg4 arg8 harg8 arg9 harg9 x0 x1 x2 x3 x7 x8 := rfl

end Stages

end Cert.KernelIdeal.RefValue

end
-- ==== Proof.Stores.lean ====
/- The lists of stores that the router kernel's body makes at one grid point, in the words of Words.lean: each output's
   pieces are one function of the piece's number. -/
module

public import proofs.«01_k».proof.Proof.Words
public import Idealize.ShloMosaic.Lib.Pipeline.ReadBack

@[expose] public section

set_option maxRecDepth 16384

noncomputable section

namespace Cert.KernelIdeal.RefValue

open Idealize.ShloMosaic Idealize.ShloMosaic.TcCoe Idealize.SL.Sem
open Cert.KernelIdeal Cert.KernelIdeal.Gen

variable {F : FTy → Type} [FloatOps F]

/-- The column blocks of a 16-row array lie in it. -/
theorem inb_cols16 (n : Fin 24) : ∀ a, (![0, 256 * n.val] : Fin 2 → ℕ) a + S16x256.size a ≤ S16x6144.size a := by
  revert n; decide +kernel

/-- The column blocks of a 256-row array lie in it. -/
theorem inb_cols256 (n : Fin 24) : ∀ a, (![0, 256 * n.val] : Fin 2 → ℕ) a + S256x256.size a ≤ S256x6144.size a := by
  revert n; decide +kernel

/-- The rows of a four-row array lie in it. -/
theorem inb_row (k : Fin 4) : ∀ a, (![k.val, 0] : Fin 2 → ℕ) a + S1x256.size a ≤ S4x256.size a := by
  revert k; decide +kernel

/-- Column group `n` of a 16-row buffer. -/
abbrev cols16 (n : Fin 24) : Rect S16x6144 := Rect.unit (s := S16x6144) ![0, 256 * n.val] S16x256.size (inb_cols16 n)

/-- Column group `n` of a 256-row buffer. -/
abbrev cols256 (n : Fin 24) : Rect S256x6144 := Rect.unit (s := S256x6144) ![0, 256 * n.val] S256x256.size (inb_cols256 n)

/-- Row `k` of a 4-row buffer. -/
abbrev rowRect (k : Fin 4) : Rect S4x256 := Rect.unit (s := S4x256) ![k.val, 0] S1x256.size (inb_row k)

/-- A column group of the weights. -/
def loadW (arg7 : Memref sig .tc .vmem S16x6144 .bf16) (harg7 : arg7.IsWhole) (x6 : Vec F S16x6144 .bf16) (n : Fin 24) :
    Vec F S16x256 .bf16 := View.readAt (Elt F) arg7.view (cols16 n).toLoadRect (harg7.unread x6)

/-- A column group of the inputs' codes. -/
def loadC (arg6 : Memref sig .tc .vmem S256x6144 .fp8e4m3) (harg6 : arg6.IsWhole) (x5 : Vec F S256x6144 .fp8e4m3) (n : Fin 24) :
    Vec F S256x256 .fp8e4m3 := View.readAt (Elt F) arg6.view (cols256 n).toLoadRect (harg6.unread x5)

/-- A column group of the accumulator. -/
def loadAcc (arg11 : Memref sig .tc .vmem S16x6144 .f32) (harg11 : arg11.IsWhole) (xo10 : Vec F S16x6144 .f32) (n : Fin 24) :
    Vec F S16x256 .f32 := View.readAt (Elt F) arg11.view (cols16 n).toLoadRect (harg11.unread xo10)

/-- The first `n` stores of the inputs' gradient, last first. -/
def dxPieces (dl : FVec F S16x256 .f32) (w : Fin 24 → Vec F S16x256 .bf16) :
    (n : ℕ) → n ≤ 24 → List (View.Piece (Elt F) S256x6144 .bf16)
  | 0, _ => []
  | n + 1, h => ⟨cols256 ⟨n, h⟩, dxOf dl (w ⟨n, h⟩)⟩ :: dxPieces dl w n (Nat.le_of_succ_le h)

/-- The first `n` stores of the weights' gradient over what the accumulator held, last first. -/
def dwrPieces (dl : FVec F S16x256 .f32) (xs : Vec F S1x256 .f32) (codes : Fin 24 → Vec F S256x256 .fp8e4m3)
    (acc : Fin 24 → Vec F S16x256 .f32) : (n : ℕ) → n ≤ 24 → List (View.Piece (Elt F) S16x6144 .f32)
  | 0, _ => []
  | n + 1, h => ⟨cols16 ⟨n, h⟩, dwrOf dl xs (codes ⟨n, h⟩) (acc ⟨n, h⟩)⟩ :: dwrPieces dl xs codes acc n (Nat.le_of_succ_le h)

/-- The first `n` stores of the weights' gradient over the zero fill of the first grid point, last first: each reads back
    what the stores before it left. -/
def dwrPieces0 (dl : FVec F S16x256 .f32) (xs : Vec F S1x256 .f32) (codes : Fin 24 → Vec F S256x256 .fp8e4m3)
    (arg11 : Memref sig .tc .vmem S16x6144 .f32) : (n : ℕ) → n ≤ 24 → List (View.Piece (Elt F) S16x6144 .f32)
  | 0, _ => [⟨Rect.unit (s := S16x6144) ![0, 0] S16x6144.size inb_S16x6144_S16x6144_0_0, k0_pay285⟩]
  | n + 1, h =>
    ⟨cols16 ⟨n, h⟩, dwrOf dl xs (codes ⟨n, h⟩)
      (arg11.view.readCov (dwrPieces0 dl xs codes arg11 n (Nat.le_of_succ_le h)) (cols16 ⟨n, h⟩).toLoadRect)⟩
      :: dwrPieces0 dl xs codes arg11 n (Nat.le_of_succ_le h)

/-- The first `k` stores of the choices' weight gradients, last first. -/
def dwPieces (id sl : Fin 4 → Vec F S1x256 .i32) (w : FVec F S16x256 .f32) :
    (k : ℕ) → k ≤ 4 → List (View.Piece (Elt F) S4x256 .f32)
  | 0, _ => []
  | k + 1, h => ⟨rowRect ⟨k, h⟩, dwOf (id ⟨k, h⟩) (sl ⟨k, h⟩) w⟩ :: dwPieces id sl w k (Nat.le_of_succ_le h)

section Lists
variable (c : Dev nD) (i : grid0.Coords) (arg1 : Memref sig .tc .vmem S224x128 .f32) (harg1 : arg1.IsWhole) (arg2 : Memref sig .tc .vmem S4x256 .i32) (harg2 : arg2.IsWhole)
  (arg3 : Memref sig .tc .vmem S4x256 .i32) (harg3 : arg3.IsWhole) (arg4 : Memref sig .tc .vmem S16x256 .f32) (harg4 : arg4.IsWhole) (arg5 : Memref sig .tc .vmem S1x256 .f32) (harg5 : arg5.IsWhole)
  (arg6 : Memref sig .tc .vmem S256x6144 .fp8e4m3) (harg6 : arg6.IsWhole) (arg7 : Memref sig .tc .vmem S16x6144 .bf16) (harg7 : arg7.IsWhole) (arg8 : Memref sig .tc .vmem S1x16 .f32) (harg8 : arg8.IsWhole)
  (arg9 : Memref sig .tc .smem S1 .f32) (harg9 : arg9.IsWhole) (arg10 : Memref sig .tc .vmem S256x6144 .bf16) (harg10 : arg10.IsWhole) (arg11 : Memref sig .tc .vmem S16x6144 .f32) (harg11 : arg11.IsWhole)
  (arg12 : Memref sig .tc .vmem S16x256 .f32) (harg12 : arg12.IsWhole) (arg13 : Memref sig .tc .vmem S4x256 .f32) (harg13 : arg13.IsWhole)
  (x0 : Vec F S224x128 .f32) (x1 : Vec F S4x256 .i32) (x2 : Vec F S4x256 .i32) (x3 : Vec F S16x256 .f32) (x4 : Vec F S1x256 .f32)
  (x5 : Vec F S256x6144 .fp8e4m3) (x6 : Vec F S16x6144 .bf16) (x7 : Vec F S1x16 .f32) (x8 : Vec F S1 .f32) (xo10 : Vec F S16x6144 .f32)

/-- The stores of the logits' gradient, after the first grid point. -/
theorem list_B_11 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10).2.2.1
      = [⟨Rect.unit ![0, 0] S16x256.size inb_S16x256_S16x256_0_0, dlAt arg1 harg1 arg2 harg2 arg3 harg3 arg4 harg4 arg8 harg8 arg9 harg9 x0 x1 x2 x3 x7 x8⟩] := rfl

/-- The stores of the choices' weight gradients, after the first grid point. -/
theorem list_B_12 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10).2.2.2.1
      = dwPieces (row256 arg3 harg3 x2) (row256 arg2 harg2 x1) (gatheredAt arg1 harg1 arg2 harg2 arg3 harg3 x0 x1 x2) 4 le_rfl := rfl

/-- The stores of the inputs' gradient, after the first grid point. -/
theorem list_B_9 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10).1
      = dxPieces (dlAt arg1 harg1 arg2 harg2 arg3 harg3 arg4 harg4 arg8 harg8 arg9 harg9 x0 x1 x2 x3 x7 x8) (fun n => loadW arg7 harg7 x6 n) 24 le_rfl := rfl

/-- The stores of the weights' gradient, after the first grid point. -/
theorem list_B_10 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10).2.1
      = dwrPieces (dlAt arg1 harg1 arg2 harg2 arg3 harg3 arg4 harg4 arg8 harg8 arg9 harg9 x0 x1 x2 x3 x7 x8) (View.readAt (Elt F) arg5.view (Rect.unit ![0, 0] S1x256.size inb_S1x256_S1x256_0_0).toLoadRect (harg5.unread x4)) (fun n => loadC arg6 harg6 x5 n) (fun n => loadAcc arg11 harg11 xo10 n) 24 le_rfl := rfl

/-- The stores of the logits' gradient, at the first grid point. -/
theorem list_A_11 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8).2.2.1
      = [⟨Rect.unit ![0, 0] S16x256.size inb_S16x256_S16x256_0_0, dlAt arg1 harg1 arg2 harg2 arg3 harg3 arg4 harg4 arg8 harg8 arg9 harg9 x0 x1 x2 x3 x7 x8⟩] := rfl

/-- The stores of the choices' weight gradients, at the first grid point. -/
theorem list_A_12 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8).2.2.2.1
      = dwPieces (row256 arg3 harg3 x2) (row256 arg2 harg2 x1) (gatheredAt arg1 harg1 arg2 harg2 arg3 harg3 x0 x1 x2) 4 le_rfl := rfl

/-- The stores of the inputs' gradient, at the first grid point. -/
theorem list_A_9 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8).1
      = dxPieces (dlAt arg1 harg1 arg2 harg2 arg3 harg3 arg4 harg4 arg8 harg8 arg9 harg9 x0 x1 x2 x3 x7 x8) (fun n => loadW arg7 harg7 x6 n) 24 le_rfl := rfl

/-- The stores of the weights' gradient, at the first grid point. -/
theorem list_A_10 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8).2.1
      = dwrPieces0 (dlAt arg1 harg1 arg2 harg2 arg3 harg3 arg4 harg4 arg8 harg8 arg9 harg9 x0 x1 x2 x3 x7 x8) (View.readAt (Elt F) arg5.view (Rect.unit ![0, 0] S1x256.size inb_S1x256_S1x256_0_0).toLoadRect (harg5.unread x4)) (fun n => loadC arg6 harg6 x5 n) arg11 24 le_rfl := rfl

end Lists

end Cert.KernelIdeal.RefValue

end
-- ==== Proof.Column.lean ====
/- One token's arithmetic in the router's backward pass, as functions of extended reals (`DL`), and the kernel's column
   arithmetic (Words.lean) read at an index of its block: every entry is that function of the token's own column. -/
module

public import proofs.«01_k».proof.Proof.Words
public import Idealize.ShloMosaic.Lib.Pointwise

@[expose] public section

set_option maxRecDepth 16384

noncomputable section

namespace Cert.Router

open Idealize.ShloMosaic

/-- A selection on an equality of words is the case split. -/
theorem select_eq {α : Type} {w : Nat} (a b : BitVec w) (x y : α) :
    Scalar.select (IntOp.cmpi .eq a b) x y = if a = b then x else y := by
  by_cases h : a = b
  · simp [Scalar.select, IntOp.cmpi, h]
  · have : (a == b) = false := by simpa using h
    simp [Scalar.select, IntOp.cmpi, h, this]

/-- Whether the choice `i` is expert `e`. -/
abbrev isExpert (i : BitVec 32) (e : Fin 16) : BitVec 1 := IntOp.cmpi .eq i (BitVec.ofNat 32 e.val)

/-- The chosen expert's entry of a column. -/
def entry (i : BitVec 32) (v : Fin 16 → EReal) : EReal := ∑ e : Fin 16, Scalar.select (isExpert i e) (v e) 0

/-- The small constant under both denominators. -/
abbrev eps : EReal := Ideal.ofBits .f32 0x1E3CE508#32

/-- The chosen scores' sum. -/
def total (g : Fin 4 → EReal) : EReal := (∑ k : Fin 4, g k) + eps

/-- A choice's part of the routing gradient. -/
def dsel (dw g : Fin 4 → EReal) (k : Fin 4) : EReal :=
  Ideal.div (Ideal.ofBits .f32 0x40200000#32) (total g) * (dw k - Ideal.div (∑ k : Fin 4, dw k * g k) (total g)) * g k * (1 - g k)

/-- An expert's routing gradient. -/
def route (id : Fin 4 → BitVec 32) (dw : Fin 4 → EReal) (s : Fin 16 → EReal) (e : Fin 16) : EReal :=
  ∑ k : Fin 4, Scalar.select (isExpert (id k) e) (dsel dw (fun k => entry (id k) s) k) 0

/-- The balance term's weight of an expert. -/
def weight (aux : EReal) (f : Fin 16 → EReal) (e : Fin 16) : EReal :=
  Ideal.div (aux * Ideal.ofBits .f32 0x41800000#32 * f e) (Ideal.ofBits .f32 0x45A00000#32)

/-- The scores' sum over all experts. -/
def mass (s : Fin 16 → EReal) : EReal := (∑ e : Fin 16, s e) + eps

/-- The balance term's gradient. -/
def aux (A s : Fin 16 → EReal) (e : Fin 16) : EReal :=
  Ideal.div (A e - ∑ e' : Fin 16, A e' * Ideal.div (s e') (mass s)) (mass s) * s e * (1 - s e)

/-- The gradient of a token's logits: from its choices, its choices' weight gradients, its logits, the balance
    coefficient and the experts' load fractions. -/
def DL (id : Fin 4 → BitVec 32) (dw : Fin 4 → EReal) (z : Fin 16 → EReal) (a : EReal) (f : Fin 16 → EReal) (e : Fin 16) : EReal :=
  route id dw (fun e => Ideal.logistic (z e)) e + aux (weight a f) (fun e => Ideal.logistic (z e)) e

end Cert.Router

namespace Cert.KernelIdeal.RefValue

open Idealize.ShloMosaic Idealize.ShloMosaic.TcCoe Idealize.SL.Sem
open Cert.KernelIdeal Cert.KernelIdeal.Gen Cert.Router

/-- The entry of the choice's expert, at a token. -/
theorem entryOf_apply (id : Vec Ideal S1x256 .i32) (v : FVec Ideal S16x256 .f32) (l : Fin 256) :
    entryOf id v (ix2 0 l) = entry (id (ix2 0 l)) (fun e => v (ix2 e l)) := by
  unfold entry
  pointwise [entryOf, colSum, chosen]

/-- The gradient of a choice's weight, at a token: the gathered entry where the choice was kept, zero where not. -/
theorem dwOf_apply (id sl : Vec Ideal S1x256 .i32) (w : FVec Ideal S16x256 .f32) (l : Fin 256) :
    dwOf id sl w (ix2 0 l)
      = Scalar.select (IntOp.cmpi .sge (sl (ix2 0 l)) 0#32) (entry (id (ix2 0 l)) (fun e => w (ix2 e l))) 0 := by
  pointwise [dwOf, entryOf_apply]

/-- The gradient through the choices' normalised gates, at a token. -/
theorem dselOf_apply (dw g : Fin 4 → FVec Ideal S1x256 .f32) (k : Fin 4) (l : Fin 256) :
    dselOf (sumOf g) (meanOf dw g) (dw k) (g k) (ix2 0 l) = dsel (fun k => dw k (ix2 0 l)) (fun k => g k (ix2 0 l)) k := by
  unfold dsel total
  pointwise [dselOf, sumOf, meanOf, Fin.sum_univ_four]

/-- The routing part of the logits' gradient, at an expert and a token. -/
theorem routeOf_apply (id sl : Fin 4 → Vec Ideal S1x256 .i32) (w s : FVec Ideal S16x256 .f32) (e : Fin 16) (l : Fin 256) :
    routeOf id sl w s (ix2 e l)
      = route (fun k => id k (ix2 0 l)) (fun k => dwOf (id k) (sl k) w (ix2 0 l)) (fun e => s (ix2 e l)) e := by
  unfold route
  pointwise [routeOf, routeStep, chosen, Fin.sum_univ_four]
  simp only [dselOf_apply (fun k => dwOf (id k) (sl k) w) (fun k => entryOf (id k) s), entryOf_apply]

/-- The balance loss's weight of an expert. -/
theorem balance_apply (a : EReal) (f : Vec Ideal S1x16 .f32) (e : Fin 16) :
    balance (F := Ideal) a f (ix2 e 0) = weight a (fun e => f (ix2 0 e)) e := by
  unfold weight
  pointwise [balance]
  rw [Finset.sum_eq_single e]
  · rw [select_eq, if_pos rfl]
  · intro x _ hx
    have : BitVec.ofNat 32 e.val ≠ BitVec.ofNat 32 x.val := by
      revert hx; revert e x; decide +kernel
    rw [select_eq, if_neg this]
  · intro h; exact absurd (Finset.mem_univ e) h

/-- The balance part's gradient by the gates' shares, at an expert and a token. -/
theorem auxOf_apply (A : FVec Ideal S16x1 .f32) (s : FVec Ideal S16x256 .f32) (e : Fin 16) (l : Fin 256) :
    auxOf A s (ix2 e l) = aux (fun e => A (ix2 e 0)) (fun e => s (ix2 e l)) e := by
  unfold aux mass
  pointwise [auxOf, totalOf, colSum]

/-- The logits' gradient, at an expert and a token. -/
theorem dlOf_apply (id sl : Fin 4 → Vec Ideal S1x256 .i32) (w : FVec Ideal S16x256 .f32) (z : Vec Ideal S16x256 .f32) (a : EReal)
    (f : Vec Ideal S1x16 .f32) (e : Fin 16) (l : Fin 256) :
    dlOf (F := Ideal) id sl w z a f (ix2 e l)
      = DL (fun k => id k (ix2 0 l)) (fun k => dwOf (id k) (sl k) w (ix2 0 l)) (fun e => z (ix2 e l)) a (fun e => f (ix2 0 e)) e := by
  unfold DL dlOf
  rw [addf_apply, routeOf_apply, auxOf_apply]
  pointwise [balance_apply]

/-- A column block of the tokens' gradient, at an index: the sum over the experts. -/
theorem dxOf_apply (dl : FVec Ideal S16x256 .f32) (w : Vec Ideal S16x256 .bf16) (l j : Fin 256) :
    dxOf dl w (ix2 l j) = ∑ e : Fin 16, dl (ix2 e l) * w (ix2 e j) := by
  pointwise [dxOf, k0_pay288]

/-- A column block of the weights' gradient, at an index: what was there and the sum over the block's tokens. -/
theorem dwrOf_apply (dl : FVec Ideal S16x256 .f32) (xs : Vec Ideal S1x256 .f32) (codes : Vec Ideal S256x256 .fp8e4m3)
    (acc : Vec Ideal S16x256 .f32) (e : Fin 16) (j : Fin 256) :
    dwrOf dl xs codes acc (ix2 e j) = acc (ix2 e j) + ∑ l : Fin 256, dl (ix2 e l) * (codes (ix2 l j) * xs (ix2 0 l)) := by
  pointwise [dwrOf, scaleOf, k0_pay287, k0_pay284]

end Cert.KernelIdeal.RefValue

end
-- ==== Proof.Gather.lean ====
/- The kernel's gather, read at an index: where a token's choice of expert `e` occupies row `r` of that expert, the
   gathered block holds at (`e`, token) the word of lane tile `r / 128` at the expert's row and lane `r % 128`. -/
module

public import proofs.«01_k».proof.Proof.Column

@[expose] public section

set_option maxRecDepth 16384

noncomputable section

namespace Cert.KernelIdeal.RefValue

open Idealize.ShloMosaic Idealize.ShloMosaic.TcCoe Idealize.SL.Sem
open Cert.KernelIdeal Cert.KernelIdeal.Gen Cert.Router

/-- The body's floor division by 128 of one word. -/
def fdivS (c : BitVec 32) : BitVec 32 :=
  Scalar.select
    (IntOp.andi
      (IntOp.cmpi .ne
        (IntOp.subi ((IntOp.cmpi .sgt c 0#32).setWidth 32) ((IntOp.cmpi .slt c 0#32).setWidth 32))
        1#32)
      (IntOp.cmpi .ne (IntOp.remsi .vector c 128#32) 0#32))
    (IntOp.subi (IntOp.divsi .vector c 128#32) 1#32)
    (IntOp.divsi .vector c 128#32)

/-- The body's remainder of one word. -/
def fremS (c : BitVec 32) : BitVec 32 :=
  Scalar.select
    (IntOp.andi
      (IntOp.xori (IntOp.cmpi .slt (IntOp.remsi .vector c 128#32) 0#32) 0#1)
      (IntOp.cmpi .ne (IntOp.remsi .vector c 128#32) 0#32))
    (IntOp.addi (IntOp.remsi .vector c 128#32) 128#32)
    (IntOp.remsi .vector c 128#32)

/-- The body's lane index of one word. -/
def laneS (c : BitVec 32) : BitVec 32 :=
  Scalar.select (IntOp.cmpi .slt (fremS c) 0#32) (IntOp.addi (fremS c) 128#32) (fremS c)

/-- The tile number, elementwise. -/
theorem fdiv_apply (c : IVec S8x128 32) (j : S8x128.Idx) : fdiv c j = fdivS (c j) := rfl

/-- The remainder by the lanes, elementwise. -/
theorem frem_apply (c : IVec S8x128 32) (j : S8x128.Idx) : frem c j = fremS (c j) := rfl

/-- The lane a place is gathered from, elementwise. -/
theorem lane_apply (c : IVec S8x128 32) (j : S8x128.Idx) : lane c j = laneS (c j) := by
  rw [lane, shapeCast_shapeCast]
  rfl

/-- A place's tile number is its quotient by 128. -/
theorem fdivS_eq : ∀ n : Fin 1600, fdivS (BitVec.ofNat 32 n.val) = BitVec.ofNat 32 (n.val / 128) := by decide +kernel

/-- A place's lane is its remainder by 128. -/
theorem laneS_eq : ∀ n : Fin 1600, (laneS (BitVec.ofNat 32 n.val)).toNat = n.val % 128 := by decide +kernel

/-- Among thirteen tiles of eight rows, the row's entry at a place `n` is lane `n % 128` of tile `n / 128`. -/
theorem pick_apply (c : IVec S8x128 32) (d : Fin 13 → FVec Ideal S8x128 .f32) (a : Fin 8) (b : Fin 128) (n : Fin 1600)
    (h : c (ix2 a b) = BitVec.ofNat 32 n.val) :
    pick c d (ix2 a b) = d ⟨n.val / 128, by omega⟩ (ix2 a ⟨n.val % 128, by omega⟩) := by
  have key : ∀ (w : BitVec 32) (m : ℕ) (_ : w = BitVec.ofNat 32 m) (_ : m < 13) (d' v : FVec Ideal S8x128 .f32),
      pickStep c w d' v (ix2 a b) = if n.val / 128 = m then d' (ix2 a ⟨n.val % 128, by omega⟩) else v (ix2 a b) := by
    intro w m hw hm d' v
    subst hw
    have hg : dynamicGather 1 d' (lane c) (ix2 a b) = d' (ix2 a ⟨n.val % 128, by omega⟩) := by
      simp only [dynamicGather]
      congr 1
      funext b'
      fin_cases b'
      · rfl
      · apply Fin.ext
        simp only [lane_apply, h, laneS_eq]
        simp
    have hs : pickStep c (BitVec.ofNat 32 m) d' v (ix2 a b)
        = Scalar.select (IntOp.cmpi .eq (fdivS (c (ix2 a b))) (BitVec.ofNat 32 m))
            (dynamicGather 1 d' (lane c) (ix2 a b)) (v (ix2 a b)) := rfl
    rw [hs, select_eq, hg, h, fdivS_eq]
    have : (BitVec.ofNat 32 (n.val / 128) = BitVec.ofNat 32 m) ↔ n.val / 128 = m := by
      constructor
      · intro e
        have := congrArg BitVec.toNat e
        simp only [BitVec.toNat_ofNat] at this
        omega
      · intro e; rw [e]
    simp only [this]
  have step : ∀ q : Fin 13, n.val / 128 = q.val → pick c d (ix2 a b) = d q (ix2 a ⟨n.val % 128, by omega⟩) := by
    intro q hq
    unfold pick
    rw [key 12#32 12 rfl (by omega), key 11#32 11 rfl (by omega), key 10#32 10 rfl (by omega), key 9#32 9 rfl (by omega),
      key 8#32 8 rfl (by omega), key 7#32 7 rfl (by omega), key 6#32 6 rfl (by omega), key 5#32 5 rfl (by omega),
      key 4#32 4 rfl (by omega), key 3#32 3 rfl (by omega), key 2#32 2 rfl (by omega), key 1#32 1 rfl (by omega),
      key 0#32 0 rfl (by omega), hq]
    clear key h hq
    fin_cases q <;> rfl
  exact step ⟨n.val / 128, by omega⟩ rfl

/-- One choice's step in finding each expert's place: the slot less the expert's first, where the choice is the expert's. -/
theorem placeStep_apply (id sl : Vec Ideal S1x128 .i32) (v : IVec S16x128 32) (e : Fin 16) (b : Fin 128) :
    placeStep (F := Ideal) id sl v (ix2 e b)
      = if id (ix2 0 b) = BitVec.ofNat 32 e.val then sl (ix2 0 b) - BitVec.ofNat 32 e.val * 1600#32 else v (ix2 e b) := by
  pointwise [placeStep]
  rw [select_eq]
  rfl

/-- A slot less its expert's first slot is its place. -/
theorem sub_first (e : Fin 16) (r : Fin 1600) :
    BitVec.ofNat 32 (1600 * e.val + r.val) - BitVec.ofNat 32 e.val * 1600#32 = BitVec.ofNat 32 r.val := by
  apply BitVec.eq_of_toNat_eq
  simp only [BitVec.toNat_sub, BitVec.toNat_mul, BitVec.toNat_ofNat]
  omega

/-- A place is not negative. -/
theorem max_zero : ∀ r : Fin 1600, IntOp.maxsi (BitVec.ofNat 32 r.val) 0#32 = BitVec.ofNat 32 r.val := by decide +kernel

/-- The place found for an expert is that of the one choice which names it. -/
theorem place_apply (id sl : Fin 4 → Vec Ideal S1x128 .i32) (e : Fin 16) (b : Fin 128) (k : Fin 4) (r : Fin 1600)
    (hid : id k (ix2 0 b) = BitVec.ofNat 32 e.val) (hsl : sl k (ix2 0 b) = BitVec.ofNat 32 (1600 * e.val + r.val))
    (hne : ∀ k' : Fin 4, k' ≠ k → id k' (ix2 0 b) ≠ BitVec.ofNat 32 e.val) :
    place (F := Ideal) id sl (ix2 e b) = BitVec.ofNat 32 r.val := by
  have hm : ∀ v w : IVec S16x128 32, maxsi v w (ix2 e b) = IntOp.maxsi (v (ix2 e b)) (w (ix2 e b)) := fun _ _ => rfl
  have hb : (broadcast S16x128 0#32 : IVec S16x128 32) (ix2 e b) = 0#32 := rfl
  rw [place, hm, hb, placeStep_apply, placeStep_apply, placeStep_apply, placeStep_apply]
  have hk : k = 0 ∨ k = 1 ∨ k = 2 ∨ k = 3 := (by decide : ∀ k : Fin 4, k = 0 ∨ k = 1 ∨ k = 2 ∨ k = 3) k
  have h3 := hne 3; have h2 := hne 2; have h1 := hne 1
  rcases hk with rfl | rfl | rfl | rfl
  · rw [if_neg (h3 (by decide)), if_neg (h2 (by decide)), if_neg (h1 (by decide)), if_pos hid, hsl, sub_first, max_zero]
  · rw [if_neg (h3 (by decide)), if_neg (h2 (by decide)), if_pos hid, hsl, sub_first, max_zero]
  · rw [if_neg (h3 (by decide)), if_pos hid, hsl, sub_first, max_zero]
  · rw [if_pos hid, hsl, sub_first, max_zero]

/-- Both eight-row halves of the tiles together: expert `e`'s entry at its place. -/
theorem half_apply (c : IVec S16x128 32) (d : Fin 2 → Fin 13 → FVec Ideal S8x128 .f32) (X : Vec Ideal S224x128 .f32)
    (hd : ∀ (g : Fin 2) (q : Fin 13) (a : Fin 8) (b : Fin 128), d g q (ix2 a b) = X (ix2 ⟨16 * q.val + 8 * g.val + a.val, by omega⟩ b))
    (e : Fin 16) (b : Fin 128) (r : Fin 1600) (h : c (ix2 e b) = BitVec.ofNat 32 r.val) :
    half c d (ix2 e b) = X (ix2 ⟨16 * (r.val / 128) + e.val, by omega⟩ ⟨r.val % 128, by omega⟩) := by
  pointwise [half]
  split
  · rename_i he
    rw [pick_apply _ _ _ _ r, hd]
    · congr 2
    · pointwise []
      rw [← h]
  · rename_i he
    rw [pick_apply _ _ _ _ r, hd]
    · congr 2
      apply Fin.ext; simp; omega
    · pointwise []
      rw [← h]; congr 2
      apply Fin.ext; simp; omega

/-- Both halves of a token block together: the gathered entry of an expert at a token is the slot's of the choice naming it. -/
theorem gathered_apply (id sl : Fin 2 → Fin 4 → Vec Ideal S1x128 .i32) (d : Fin 2 → Fin 13 → FVec Ideal S8x128 .f32)
    (X : Vec Ideal S224x128 .f32)
    (hd : ∀ (g : Fin 2) (q : Fin 13) (a : Fin 8) (b : Fin 128), d g q (ix2 a b) = X (ix2 ⟨16 * q.val + 8 * g.val + a.val, by omega⟩ b))
    (x1 x2 : Vec Ideal S4x256 .i32)
    (h1 : ∀ (h : Fin 2) (k : Fin 4) (b : Fin 128), sl h k (ix2 0 b) = x1 (ix2 k ⟨128 * h.val + b.val, by omega⟩))
    (h2 : ∀ (h : Fin 2) (k : Fin 4) (b : Fin 128), id h k (ix2 0 b) = x2 (ix2 k ⟨128 * h.val + b.val, by omega⟩))
    (e : Fin 16) (l : Fin 256) (k : Fin 4) (r : Fin 1600)
    (hid : x2 (ix2 k l) = BitVec.ofNat 32 e.val) (hsl : x1 (ix2 k l) = BitVec.ofNat 32 (1600 * e.val + r.val))
    (hne : ∀ k' : Fin 4, k' ≠ k → x2 (ix2 k' l) ≠ BitVec.ofNat 32 e.val) :
    gathered (F := Ideal) id sl d (ix2 e l) = X (ix2 ⟨16 * (r.val / 128) + e.val, by omega⟩ ⟨r.val % 128, by omega⟩) := by
  pointwise [gathered]
  split
  · rename_i hl
    have hl' : (⟨128 * (0 : Fin 2).val + l.val, by have := l.isLt; simp⟩ : Fin 256) = l := by apply Fin.ext; simp
    refine half_apply _ d X hd e _ r (place_apply _ _ e _ k r ?_ ?_ ?_)
    · rw [h2, ← hid]; congr 2
    · rw [h1, ← hsl]; congr 2
    · intro k' hk; rw [h2]; convert hne k' hk using 3
  · rename_i hl
    refine half_apply _ d X hd e _ r (place_apply _ _ e _ k r ?_ ?_ ?_)
    · rw [h2, ← hid]; congr 2; apply Fin.ext; simp; omega
    · rw [h1, ← hsl]; congr 2; apply Fin.ext; simp; omega
    · intro k' hk; rw [h2]; convert hne k' hk using 3; apply Fin.ext; simp; omega

section Loads
variable (arg1 : Memref sig .tc .vmem S224x128 .f32) (harg1 : arg1.IsWhole)
  (argi : Memref sig .tc .vmem S4x256 .i32) (hargi : argi.IsWhole)

/-- A tile, read from the laid out slots at an index. -/
theorem tile_apply (x0 : Vec Ideal S224x128 .f32) (g : Fin 2) (q : Fin 13) (a : Fin 8) (b : Fin 128) :
    tile arg1 harg1 x0 g q (ix2 a b) = x0 (ix2 ⟨16 * q.val + 8 * g.val + a.val, by omega⟩ b) := by
  rw [tile, View.readAt_eq_ld, harg1.read_unread]
  pointwise []

/-- A choice's row for half a token block, read at an index. -/
theorem row128_apply (x : Vec Ideal S4x256 .i32) (h : Fin 2) (k : Fin 4) (b : Fin 128) :
    row128 argi hargi x h k (ix2 0 b) = x (ix2 k ⟨128 * h.val + b.val, by omega⟩) := by
  rw [row128, View.readAt_eq_ld, hargi.read_unread]
  pointwise []

/-- A choice's row for a token block, read at an index. -/
theorem row256_apply (x : Vec Ideal S4x256 .i32) (k : Fin 4) (l : Fin 256) :
    row256 argi hargi x k (ix2 0 l) = x (ix2 k l) := by
  rw [row256, View.readAt_eq_ld, hargi.read_unread]
  pointwise []

end Loads

end Cert.KernelIdeal.RefValue

end
-- ==== Proof.Blocks.lean ====
/- What the router kernel's body leaves in its four outputs at one grid point, at exact arithmetic: the choices' weight
   gradients, the logits' gradient, its product with the weights, and what the accumulator held plus its product with the
   scaled inputs (from zero at the first grid point). -/
module

public import proofs.«01_k».proof.Proof.Stores
public import proofs.«01_k».proof.Proof.Gather

@[expose] public section

set_option maxRecDepth 16384

noncomputable section

namespace Cert.KernelIdeal.RefValue

open Idealize.ShloMosaic Idealize.ShloMosaic.TcCoe Idealize.SL.Sem
open Cert.KernelIdeal Cert.KernelIdeal.Gen Cert.Router

/-! ## The pieces as blocks of one function -/

/-- Where the `n`-th column block of a 16-row array puts an index. -/
theorem cols16_emb (n : Fin 24) (a : Fin 16) (b : Fin 256) :
    (cols16 n).emb (ix2 a b) = ix2 a ⟨256 * n.val + b.val, by omega⟩ := by
  funext i
  fin_cases i <;> apply Fin.ext <;> simp [Rect.emb, Rect.unit]

/-- Where the `n`-th column block of a 256-row array puts an index. -/
theorem cols256_emb (n : Fin 24) (a : Fin 256) (b : Fin 256) :
    (cols256 n).emb (ix2 a b) = ix2 a ⟨256 * n.val + b.val, by omega⟩ := by
  funext i
  fin_cases i <;> apply Fin.ext <;> simp [Rect.emb, Rect.unit]

/-- Where the `k`-th row of a four-row array puts an index. -/
theorem rowRect_emb (k : Fin 4) (b : Fin 256) : (rowRect k).emb (ix2 0 b) = ix2 k b := by
  funext i
  fin_cases i <;> apply Fin.ext <;> simp [Rect.emb, Rect.unit]

/-- The weights' `n`-th column block, read at an index. -/
theorem loadW_apply (arg7 : Memref sig .tc .vmem S16x6144 .bf16) (harg7 : arg7.IsWhole) (x6 : Vec Ideal S16x6144 .bf16) (n : Fin 24)
    (e : Fin 16) (b : Fin 256) : loadW arg7 harg7 x6 n (ix2 e b) = x6 (ix2 e ⟨256 * n.val + b.val, by omega⟩) := by
  rw [loadW, View.readAt_eq_ld, harg7.read_unread]
  exact congrArg x6 (cols16_emb n e b)

/-- The codes' `n`-th column block, read at an index. -/
theorem loadC_apply (arg6 : Memref sig .tc .vmem S256x6144 .fp8e4m3) (harg6 : arg6.IsWhole) (x5 : Vec Ideal S256x6144 .fp8e4m3)
    (n : Fin 24) (l b : Fin 256) : loadC arg6 harg6 x5 n (ix2 l b) = x5 (ix2 l ⟨256 * n.val + b.val, by omega⟩) := by
  rw [loadC, View.readAt_eq_ld, harg6.read_unread]
  exact congrArg x5 (cols256_emb n l b)

/-- The accumulator's `n`-th column block, read at an index. -/
theorem loadAcc_apply (arg11 : Memref sig .tc .vmem S16x6144 .f32) (harg11 : arg11.IsWhole) (x : Vec Ideal S16x6144 .f32) (n : Fin 24)
    (e : Fin 16) (b : Fin 256) : loadAcc arg11 harg11 x n (ix2 e b) = x (ix2 e ⟨256 * n.val + b.val, by omega⟩) := by
  rw [loadAcc, View.readAt_eq_ld, harg11.read_unread]
  exact congrArg x (cols16_emb n e b)

/-- The inputs' gradient of a block. -/
def dxBlock (dl : FVec Ideal S16x256 .f32) (w : Vec Ideal S16x6144 .bf16) : Vec Ideal S256x6144 .bf16 :=
  fun j => ∑ e : Fin 16, dl (ix2 e (j 0)) * w (ix2 e (j 1))

/-- A block's part of the weights' gradient, over what was there. -/
def dwrBlock (dl : FVec Ideal S16x256 .f32) (xs : Vec Ideal S1x256 .f32) (codes : Vec Ideal S256x6144 .fp8e4m3)
    (acc : Vec Ideal S16x6144 .f32) : Vec Ideal S16x6144 .f32 :=
  fun j => acc j + ∑ l : Fin 256, dl (ix2 (j 0) l) * (codes (ix2 l (j 1)) * xs (ix2 0 l))

/-- The choices' weight gradients of a block. -/
def dwBlock (id sl : Fin 4 → Vec Ideal S1x256 .i32) (w : FVec Ideal S16x256 .f32) : Vec Ideal S4x256 .f32 :=
  fun j => dwOf (id (j 0)) (sl (j 0)) w (ix2 0 (j 1))

/-- The first `n` stores of the tokens' gradient are pieces of one block of products. -/
theorem dx_pieces (dl : FVec Ideal S16x256 .f32) (w : Vec Ideal S16x6144 .bf16) (W : Fin 24 → Vec Ideal S16x256 .bf16)
    (hW : ∀ n e b, W n (ix2 e b) = w (ix2 e ⟨256 * n.val + b.val, by omega⟩)) (n : ℕ) (h : n ≤ 24) :
    View.PiecesOf (dxBlock dl w) (dxPieces dl W n h) := by
  induction n with
  | zero => trivial
  | succ n ih =>
    refine ⟨fun x => ?_, ih _⟩
    have key : ∀ a b : Fin 256, dxOf dl (W ⟨n, h⟩) (ix2 a b) = dxBlock dl w ((cols256 ⟨n, h⟩).emb (ix2 a b)) := by
      intro a b
      rw [cols256_emb, dxOf_apply]
      simp only [hW]
      rfl
    have := key (x 0) (x 1)
    rwa [← eq_ix2 x] at this

/-- The first `n` stores of the weights' gradient are pieces of one block: what was there and this point's products. -/
theorem dwr_pieces (dl : FVec Ideal S16x256 .f32) (xs : Vec Ideal S1x256 .f32) (codes : Vec Ideal S256x6144 .fp8e4m3)
    (acc : Vec Ideal S16x6144 .f32) (C : Fin 24 → Vec Ideal S256x256 .fp8e4m3) (A : Fin 24 → Vec Ideal S16x256 .f32)
    (hC : ∀ n l b, C n (ix2 l b) = codes (ix2 l ⟨256 * n.val + b.val, by omega⟩))
    (hA : ∀ n e b, A n (ix2 e b) = acc (ix2 e ⟨256 * n.val + b.val, by omega⟩)) (n : ℕ) (h : n ≤ 24) :
    View.PiecesOf (dwrBlock dl xs codes acc) (dwrPieces dl xs C A n h) := by
  induction n with
  | zero => trivial
  | succ n ih =>
    refine ⟨fun x => ?_, ih _⟩
    have key : ∀ (a : Fin 16) (b : Fin 256), dwrOf dl xs (C ⟨n, h⟩) (A ⟨n, h⟩) (ix2 a b)
        = dwrBlock dl xs codes acc ((cols16 ⟨n, h⟩).emb (ix2 a b)) := by
      intro a b
      rw [cols16_emb, dwrOf_apply]
      simp only [hC, hA]
      rfl
    have := key (x 0) (x 1)
    rwa [← eq_ix2 x] at this

/-- The first `k` stores of the choices' gradients are rows of one block. -/
theorem dw_pieces (id sl : Fin 4 → Vec Ideal S1x256 .i32) (w : FVec Ideal S16x256 .f32) (k : ℕ) (h : k ≤ 4) :
    View.PiecesOf (dwBlock id sl w) (dwPieces id sl w k h) := by
  induction k with
  | zero => trivial
  | succ k ih =>
    refine ⟨fun x => ?_, ih _⟩
    have key : ∀ (a : Fin 1) (b : Fin 256), dwOf (id ⟨k, h⟩) (sl ⟨k, h⟩) w (ix2 a b)
        = dwBlock id sl w ((rowRect ⟨k, h⟩).emb (ix2 a b)) := by
      intro a b
      rw [Subsingleton.elim a 0, rowRect_emb]
      rfl
    have := key (x 0) (x 1)
    rwa [← eq_ix2 x] at this

/-- Column groups do not meet. -/
theorem cols16_disj : ∀ n m : Fin 24, n.val < m.val → LoadRect.disj (cols16 n) (cols16 m).toLoadRect = true := by
  decide +kernel

/-- Over the zero fill, a column group not yet stored reads zero. -/
theorem readCov_zero (dl : FVec Ideal S16x256 .f32) (xs : Vec Ideal S1x256 .f32) (C : Fin 24 → Vec Ideal S256x256 .fp8e4m3)
    (arg11 : Memref sig .tc .vmem S16x6144 .f32) (n : ℕ) (h : n ≤ 24) (m : Fin 24) (hm : n ≤ m.val) (e : Fin 16) (b : Fin 256) :
    arg11.view.readCov (dwrPieces0 dl xs C arg11 n h) (cols16 m).toLoadRect (ix2 e b) = (0 : EReal) := by
  induction n with
  | zero =>
    rw [dwrPieces0, View.readCov_fill arg11.view _ _ _ _ (by decide)]
    exact Ideal.ofBits_zero_f32
  | succ n ih =>
    rw [dwrPieces0, View.readCov_skip arg11.view _ _ _ _ (cols16_disj ⟨n, h⟩ m (by simpa using hm))]
    exact ih (by omega) (by omega)

/-- Over the zero fill the stores are those over an accumulator at zero. -/
theorem dwr_pieces0 (dl : FVec Ideal S16x256 .f32) (xs : Vec Ideal S1x256 .f32) (C : Fin 24 → Vec Ideal S256x256 .fp8e4m3)
    (arg11 : Memref sig .tc .vmem S16x6144 .f32) (n : ℕ) (h : n ≤ 24) :
    dwrPieces0 dl xs C arg11 n h = dwrPieces dl xs C (fun _ => fun _ => (0 : EReal)) n h
      ++ [⟨Rect.unit (s := S16x6144) ![0, 0] S16x6144.size inb_S16x6144_S16x6144_0_0, k0_pay285 (F := Ideal)⟩] := by
  induction n with
  | zero => rfl
  | succ n ih =>
    rw [dwrPieces0, dwrPieces, List.cons_append, ← ih]
    congr 3
    funext j
    rw [eq_ix2 j]
    exact readCov_zero dl xs C arg11 n _ ⟨n, h⟩ le_rfl _ _

/-- The stores of the weights' gradient cover its array. -/
theorem dwr_mem (dl : FVec Ideal S16x256 .f32) (xs : Vec Ideal S1x256 .f32) (C : Fin 24 → Vec Ideal S256x256 .fp8e4m3)
    (A : Fin 24 → Vec Ideal S16x256 .f32) (y : S16x6144.Idx) : ∃ p ∈ dwrPieces dl xs C A 24 le_rfl, y ∈ p.1.set := by
  have key : ∀ (n : ℕ) (h : n ≤ 24) (m : Fin 24), m.val < n → ∃ p ∈ dwrPieces dl xs C A n h, p.1 = cols16 m := by
    intro n
    induction n with
    | zero => intro _ m hm; omega
    | succ n ih =>
      intro h m hm
      rcases Nat.lt_succ_iff_lt_or_eq.mp hm with hlt | heq
      · obtain ⟨p, hp, e⟩ := ih (by omega) m hlt
        exact ⟨p, List.mem_cons_of_mem _ hp, e⟩
      · refine ⟨_, List.mem_cons_self, ?_⟩
        congr 1
        exact congrArg cols16 (Fin.ext heq.symm)
  have hy : (y 1).val < 6144 := (y 1).isLt
  obtain ⟨p, hp, e⟩ := key 24 le_rfl ⟨(y 1).val / 256, by omega⟩ (by simp; omega)
  refine ⟨p, hp, ?_⟩
  rw [e]
  have hm : ∀ (n : Fin 24) (a : Fin 16) (b : Fin 256), ix2 a ⟨256 * n.val + b.val, by omega⟩ ∈ (cols16 n).set := by
    intro n a b
    rw [← cols16_emb]
    exact (cols16 n).idx_mem (ix2 a b)
  have := hm ⟨(y 1).val / 256, by omega⟩ (y 0) ⟨(y 1).val % 256, by omega⟩
  have hj : ix2 (y 0) ⟨256 * ((y 1).val / 256) + (y 1).val % 256, by omega⟩ = y := by
    funext i
    fin_cases i
    · rfl
    · apply Fin.ext; exact Nat.div_add_mod _ _
  exact (congrArg (· ∈ (cols16 ⟨(y 1).val / 256, by omega⟩).set) hj).mp this

/-! ## The outputs -/

section Outputs
variable (c : Dev nD) (i : grid0.Coords) (arg1 : Memref sig .tc .vmem S224x128 .f32) (harg1 : arg1.IsWhole) (arg2 : Memref sig .tc .vmem S4x256 .i32) (harg2 : arg2.IsWhole)
  (arg3 : Memref sig .tc .vmem S4x256 .i32) (harg3 : arg3.IsWhole) (arg4 : Memref sig .tc .vmem S16x256 .f32) (harg4 : arg4.IsWhole) (arg5 : Memref sig .tc .vmem S1x256 .f32) (harg5 : arg5.IsWhole)
  (arg6 : Memref sig .tc .vmem S256x6144 .fp8e4m3) (harg6 : arg6.IsWhole) (arg7 : Memref sig .tc .vmem S16x6144 .bf16) (harg7 : arg7.IsWhole) (arg8 : Memref sig .tc .vmem S1x16 .f32) (harg8 : arg8.IsWhole)
  (arg9 : Memref sig .tc .smem S1 .f32) (harg9 : arg9.IsWhole) (arg10 : Memref sig .tc .vmem S256x6144 .bf16) (harg10 : arg10.IsWhole) (arg11 : Memref sig .tc .vmem S16x6144 .f32) (harg11 : arg11.IsWhole)
  (arg12 : Memref sig .tc .vmem S16x256 .f32) (harg12 : arg12.IsWhole) (arg13 : Memref sig .tc .vmem S4x256 .f32) (harg13 : arg13.IsWhole)
  (x0 : Vec Ideal S224x128 .f32) (x1 : Vec Ideal S4x256 .i32) (x2 : Vec Ideal S4x256 .i32) (x3 : Vec Ideal S16x256 .f32)
  (x4 : Vec Ideal S1x256 .f32) (x5 : Vec Ideal S256x6144 .fp8e4m3) (x6 : Vec Ideal S16x6144 .bf16) (x7 : Vec Ideal S1x16 .f32)
  (x8 : Vec Ideal S1 .f32) (xo10 : Vec Ideal S16x6144 .f32)

/-- The loads of a whole buffer read it. -/
theorem load_scale : View.readAt (Elt Ideal) arg5.view (Rect.unit ![0, 0] S1x256.size inb_S1x256_S1x256_0_0).toLoadRect (harg5.unread x4) = x4 := by
  rw [View.readAt_eq_ld, harg5.read_unread]
  exact View.ld_unit_zero (S := S1x256) (off := ![0, 0]) (by decide) _ _

/-- What the body leaves of the logits' gradient, after the first grid point. -/
theorem out_B_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10
      = dlAt arg1 harg1 arg2 harg2 arg3 harg3 arg4 harg4 arg8 harg8 arg9 harg9 x0 x1 x2 x3 x7 x8 := by
  rw [out0_B_11, View.read_writes_junk_eq_canon, list_B_11]
  exact View.canon_cons_unit_zero (by decide) _ _ _

/-- What the body leaves of the choices' weight gradients, after the first grid point. -/
theorem out_B_12 (hc0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10
      = dwBlock (row256 arg3 harg3 x2) (row256 arg2 harg2 x1) (gatheredAt arg1 harg1 arg2 harg2 arg3 harg3 x0 x1 x2) := by
  rw [out0_B_12, View.read_writes_junk_eq_canon]
  funext y
  have hy := cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 y
  rw [list_B_12] at hy ⊢
  exact View.canon_apply_of_pieces _ _ (dw_pieces _ _ _ 4 le_rfl).mem y hy

/-- What the body leaves of the inputs' gradient, after the first grid point. -/
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10
      = dxBlock (dlAt arg1 harg1 arg2 harg2 arg3 harg3 arg4 harg4 arg8 harg8 arg9 harg9 x0 x1 x2 x3 x7 x8) x6 := by
  rw [out0_B_9, View.read_writes_junk_eq_canon]
  funext y
  have hy := cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 y
  rw [list_B_9] at hy ⊢
  exact View.canon_apply_of_pieces _ _ (dx_pieces _ x6 _ (loadW_apply arg7 harg7 x6) 24 le_rfl).mem y hy

/-- What the body leaves of the weights' gradient, after the first grid point. -/
theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8 xo10
      = dwrBlock (dlAt arg1 harg1 arg2 harg2 arg3 harg3 arg4 harg4 arg8 harg8 arg9 harg9 x0 x1 x2 x3 x7 x8) x4 x5 xo10 := by
  rw [out0_B_10, View.read_writes_junk_eq_canon]
  funext y
  have hy := cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 y
  rw [list_B_10, load_scale] at hy ⊢
  exact View.canon_apply_of_pieces _ _ (dwr_pieces _ x4 x5 xo10 _ _ (loadC_apply arg6 harg6 x5) (loadAcc_apply arg11 harg11 xo10) 24 le_rfl).mem y hy

/-- What the body leaves of the logits' gradient, at the first grid point. -/
theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8
      = dlAt arg1 harg1 arg2 harg2 arg3 harg3 arg4 harg4 arg8 harg8 arg9 harg9 x0 x1 x2 x3 x7 x8 := by
  rw [out0_A_11, View.read_writes_junk_eq_canon, list_A_11]
  exact View.canon_cons_unit_zero (by decide) _ _ _

/-- What the body leaves of the choices' weight gradients, at the first grid point. -/
theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8
      = dwBlock (row256 arg3 harg3 x2) (row256 arg2 harg2 x1) (gatheredAt arg1 harg1 arg2 harg2 arg3 harg3 x0 x1 x2) := by
  rw [out0_A_12, View.read_writes_junk_eq_canon]
  funext y
  have hy := cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
  rw [list_A_12] at hy ⊢
  exact View.canon_apply_of_pieces _ _ (dw_pieces _ _ _ 4 le_rfl).mem y hy

/-- What the body leaves of the inputs' gradient, at the first grid point. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8
      = dxBlock (dlAt arg1 harg1 arg2 harg2 arg3 harg3 arg4 harg4 arg8 harg8 arg9 harg9 x0 x1 x2 x3 x7 x8) x6 := by
  rw [out0_A_9, View.read_writes_junk_eq_canon]
  funext y
  have hy := cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
  rw [list_A_9] at hy ⊢
  exact View.canon_apply_of_pieces _ _ (dx_pieces _ x6 _ (loadW_apply arg7 harg7 x6) 24 le_rfl).mem y hy

/-- What the body leaves of the weights' gradient, at the first grid point. -/
theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0
      x0 x1 x2 x3 x4 x5 x6 x7 x8
      = dwrBlock (dlAt arg1 harg1 arg2 harg2 arg3 harg3 arg4 harg4 arg8 harg8 arg9 harg9 x0 x1 x2 x3 x7 x8) x4 x5 (fun _ => (0 : EReal)) := by
  rw [out0_A_10, View.read_writes_junk_eq_canon, list_A_10, load_scale, dwr_pieces0]
  funext y
  exact View.canon_append_of_piecesOf _ _ _
    (dwr_pieces _ x4 x5 (fun _ => (0 : EReal)) _ _ (loadC_apply arg6 harg6 x5) (fun _ _ _ => rfl) 24 le_rfl) y (dwr_mem _ _ _ _ y)

end Outputs

end Cert.KernelIdeal.RefValue

end
-- ==== Proof.Tokens.lean ====
/- The weight gradient at a choice's slot and the gradient of a token's logits from the arguments, the routing that the
   precondition names, and a sum over all tokens as the sum over the grid points' tokens. -/
module

public import proofs.«01_k».proof.Proof.Column

@[expose] public section

set_option maxRecDepth 16384

noncomputable section

namespace Cert.Router

open Idealize.ShloMosaic Idealize.ShloMosaic.TcCoe Idealize.SL.Sem
open Cert.KernelIdeal

/-- The weight gradient of a choice: the one at its slot, or zero where the choice was dropped (a negative slot). -/
def DW (d : S25600.Idx → EReal) (s : BitVec 32) : EReal :=
  if s.slt 0 then 0 else d (ix1 ⟨s.toNat % 25600, Nat.mod_lt _ (by omega)⟩)

/-- The gradient of token `T`'s logit for expert `e`. -/
def tokenDL (d : S25600.Idx → EReal) (slot ids : S5120x4.Idx → BitVec 32) (z : S5120x16.Idx → EReal) (f : S16.Idx → EReal)
    (a : S1.Idx → EReal) (T : Fin 5120) (e : Fin 16) : EReal :=
  DL (fun k => ids (ix2 T k)) (fun k => DW d (slot (ix2 T k))) (fun e => z (ix2 T e)) (a (ix1 0)) (fun e => f (ix1 e)) e

/-- Every choice is dropped or has its slot among its expert's 1600, and a token's experts differ. -/
def Routed (slot ids : S5120x4.Idx → BitVec 32) : Prop :=
  ∀ T : Fin 5120,
    (∀ k : Fin 4, (slot (ix2 T k)).slt 0 = true ∨ ∃ (e : Fin 16) (r : Fin 1600),
      ids (ix2 T k) = BitVec.ofNat 32 e.val ∧ slot (ix2 T k) = BitVec.ofNat 32 (1600 * e.val + r.val))
    ∧ ∀ k k' : Fin 4, k ≠ k' → ids (ix2 T k) ≠ ids (ix2 T k')

/-- A dropped choice's weight gradient is zero. -/
theorem DW_dropped (d : S25600.Idx → EReal) (s : BitVec 32) (h : s.slt 0 = true) : DW d s = 0 := if_pos h

/-- A small word is not negative. -/
theorem slt_ofNat (n : ℕ) (h : n < 25600) : (BitVec.ofNat 32 n).slt 0 = false := by
  have h1 : (BitVec.ofNat 32 n).toNat = n := by rw [BitVec.toNat_ofNat]; omega
  have h2 : (BitVec.ofNat 32 n).toInt = n := by rw [BitVec.toInt_eq_toNat_of_lt (by omega), h1]
  rw [BitVec.slt, h2]
  simp

/-- A kept choice's weight gradient is the one at its slot. -/
theorem DW_kept (d : S25600.Idx → EReal) (e : Fin 16) (r : Fin 1600) :
    DW d (BitVec.ofNat 32 (1600 * e.val + r.val)) = d (ix1 ⟨1600 * e.val + r.val, by omega⟩) := by
  rw [DW, slt_ofNat _ (by omega), if_neg (by decide)]
  congr 2
  apply Fin.ext
  have h : (BitVec.ofNat 32 (1600 * e.val + r.val)).toNat = 1600 * e.val + r.val := by
    rw [BitVec.toNat_ofNat]; exact Nat.mod_eq_of_lt (by omega)
  show (BitVec.ofNat 32 (1600 * e.val + r.val)).toNat % 25600 = 1600 * e.val + r.val
  rw [h]
  exact Nat.mod_eq_of_lt (by omega)

/-- Selecting on a negative slot takes the second value. -/
theorem select_dropped {α : Type} (s : BitVec 32) (x y : α) (h : s.slt 0 = true) : Scalar.select (IntOp.cmpi .sge s 0#32) x y = y := by
  have h' : (0#32).sle s = false := by
    rw [BitVec.sle_eq_not_slt]; simpa using h
  simp [Scalar.select, IntOp.cmpi, h']

/-- Selecting on a kept slot takes the first value. -/
theorem select_kept {α : Type} (e : Fin 16) (r : Fin 1600) (x y : α) :
    Scalar.select (IntOp.cmpi .sge (BitVec.ofNat 32 (1600 * e.val + r.val)) 0#32) x y = x := by
  have h' : (0#32).sle (BitVec.ofNat 32 (1600 * e.val + r.val)) = true := by
    rw [BitVec.sle_eq_not_slt]; simpa using slt_ofNat _ (by omega)
  simp [Scalar.select, IntOp.cmpi, h']

/-- The entry of a column at an expert's own number. -/
theorem entry_ofNat (e : Fin 16) (v : Fin 16 → EReal) : entry (BitVec.ofNat 32 e.val) v = v e := by
  unfold entry
  rw [Finset.sum_eq_single e]
  · rw [select_eq, if_pos rfl]
  · intro x _ hx
    have : BitVec.ofNat 32 e.val ≠ BitVec.ofNat 32 x.val := by
      revert hx; revert e x; decide +kernel
    rw [select_eq, if_neg this]
  · intro h; exact absurd (Finset.mem_univ e) h

/-- A sum over 5120 tokens, by twenty blocks of 256. -/
theorem sum_tokens (g : Fin 5120 → EReal) :
    ∑ i ∈ Finset.range 20, ∑ l : Fin 256, g ⟨(256 * i + l.val) % 5120, Nat.mod_lt _ (by omega)⟩ = ∑ T : Fin 5120, g T := by
  rw [Finset.sum_range, ← Fintype.sum_prod_type' (f := fun (i : Fin 20) (l : Fin 256) => g ⟨(256 * i.val + l.val) % 5120, _⟩)]
  refine Fintype.sum_equiv (finProdFinEquiv (m := 20) (n := 256)) _ _ fun x => ?_
  congr 1
  apply Fin.ext
  have h1 := x.1.isLt
  have h2 := x.2.isLt
  show (256 * x.1.val + x.2.val) % 5120 = x.2.val + 256 * x.1.val
  omega

end Cert.Router

end
-- ==== Proof.Arrays.lean ====
/- The router kernel's four results as functions of the arguments: what each grid point leaves in each output (the
   accumulator by induction over the points), and so each result array after the run. -/
module

public import proofs.«01_k».proof.Proof.HostK
public import proofs.«01_k».proof.Proof.Blocks
public import proofs.«01_k».proof.Proof.Tokens

@[expose] public section

set_option maxRecDepth 16384

noncomputable section

namespace Cert.KernelIdeal.RefValue

open Idealize.ShloMosaic Idealize.ShloMosaic.TcCoe Idealize.SL.Sem
open Cert.KernelIdeal Cert.KernelIdeal.Gen Cert.Router

variable (m : (ℓ : Loc nD τ sig) → Buf (Elt Ideal) ℓ) (c : Dev nD)

/-! ## The arguments by their names -/

/-- The slots' weight gradients. -/
abbrev mDots : S25600.Idx → EReal := m ((c : Thread nD τ).loc main_arg0)
/-- The slots of the tokens' choices. -/
abbrev mSlot : S5120x4.Idx → BitVec 32 := m ((c : Thread nD τ).loc main_arg1)
/-- The experts of the tokens' choices. -/
abbrev mIds : S5120x4.Idx → BitVec 32 := m ((c : Thread nD τ).loc main_arg2)
/-- The logits. -/
abbrev mLogits : S5120x16.Idx → EReal := m ((c : Thread nD τ).loc main_arg3)
/-- The inputs' codes. -/
abbrev mCodes : S5120x6144.Idx → EReal := m ((c : Thread nD τ).loc main_arg4)
/-- The inputs' scales. -/
abbrev mScale : S5120.Idx → EReal := m ((c : Thread nD τ).loc main_arg5)
/-- The router's weights. -/
abbrev mWr : S6144x16.Idx → EReal := m ((c : Thread nD τ).loc main_arg6)
/-- The experts' loads. -/
abbrev mLoad : S16.Idx → EReal := m ((c : Thread nD τ).loc main_arg7)
/-- The balance coefficient. -/
abbrev mAux : S1.Idx → EReal := m ((c : Thread nD τ).loc main_arg8)

/-- The gradient of token `T`'s logit for expert `e`. -/
abbrev mDL (T : Fin 5120) (e : Fin 16) : EReal :=
  tokenDL (mDots m c) (mSlot m c) (mIds m c) (mLogits m c) (mLoad m c) (mAux m c) T e

variable (hr : Routed (mSlot m c) (mIds m c))

/-! ## One grid point -/

/-- A one-word array has one index. -/
theorem first_eq (h : 0 < S1.numel) : (Shape.Idx.first h : S1.Idx) = ix1 0 := by
  funext a
  match a with
  | ⟨0, _⟩ => exact Subsingleton.elim (α := Fin 1) _ _

section point

variable (t : Fin cfg0.N)
  (arg1 : Memref sig .tc .vmem S224x128 .f32) (harg1 : arg1.IsWhole) (arg2 : Memref sig .tc .vmem S4x256 .i32) (harg2 : arg2.IsWhole)
  (arg3 : Memref sig .tc .vmem S4x256 .i32) (harg3 : arg3.IsWhole) (arg4 : Memref sig .tc .vmem S16x256 .f32) (harg4 : arg4.IsWhole)
  (arg8 : Memref sig .tc .vmem S1x16 .f32) (harg8 : arg8.IsWhole) (arg9 : Memref sig .tc .smem S1 .f32) (harg9 : arg9.IsWhole)

include hr in
/-- The weight gradient that the kernel finds for choice `k` of the point's token `l` is the one at the choice's slot. -/
theorem dw_point (k : Fin 4) (l : Fin 256) :
    dwOf (row256 arg3 harg3 (iblk m c 2 t) k) (row256 arg2 harg2 (iblk m c 1 t) k)
        (gatheredAt arg1 harg1 arg2 harg2 arg3 harg3 (iblk m c 0 t) (iblk m c 1 t) (iblk m c 2 t)) (ix2 0 l)
      = DW (mDots m c) (mSlot m c (ix2 (tok t.val l) k)) := by
  rw [dwOf_apply, row256_apply, row256_apply, blk1, blk2]
  change Scalar.select (IntOp.cmpi .sge (mSlot m c (ix2 (tok t.val l) k)) 0#32) (entry (mIds m c (ix2 (tok t.val l) k)) _) 0 = _
  rcases (hr (tok t.val l)).1 k with hneg | ⟨e, r, hid, hsl⟩
  · rw [DW_dropped _ _ hneg, select_dropped _ _ _ hneg]
  · rw [hsl, select_kept, DW_kept, hid, entry_ofNat]
    rw [gatheredAt, gathered_apply _ _ _ (iblk m c 0 t) (tile_apply arg1 harg1 (iblk m c 0 t)) (iblk m c 1 t) (iblk m c 2 t)
      (row128_apply arg2 harg2 (iblk m c 1 t)) (row128_apply arg3 harg3 (iblk m c 2 t)) e l k r
      ((blk2 m c t k l).trans hid) ((blk1 m c t k l).trans hsl)
      (fun k' hk' => by rw [blk2, ← hid]; exact (hr (tok t.val l)).2 k' k hk')]
    exact blk0 m c t e r

include hr in
/-- The gradient of the logits that the kernel finds for the point's token `l`. -/
theorem dl_point (e : Fin 16) (l : Fin 256) :
    dlAt arg1 harg1 arg2 harg2 arg3 harg3 arg4 harg4 arg8 harg8 arg9 harg9 (iblk m c 0 t) (iblk m c 1 t) (iblk m c 2 t) (iblk m c 3 t)
      (iblk m c 7 t) (iblk m c 8 t) (ix2 e l) = mDL m c (tok t.val l) e := by
  rw [dlAt, dlOf_apply]
  unfold mDL tokenDL
  simp only [dw_point m c hr t arg1 harg1 arg2 harg2 arg3 harg3, View.readAt_eq_ld, harg4.read_unread, harg8.read_unread, harg9.read_unread,
    row256_apply, blk2]
  rw [View.ld_unit_zero (S := S16x256) (off := ![0, 0]) (by decide) _ _, View.ld_unit_zero (S := S1x16) (off := ![0, 0]) (by decide) _ _,
    View.ld_unit_zero (S := S1) (off := ![0]) (by decide) _ _]
  simp only [blk3, blk7, blk8, first_eq]

end point

/-- The part of the weights' gradient that grid point `i`'s tokens contribute. -/
def part (i : ℕ) (j : S16x6144.Idx) : EReal :=
  ∑ l : Fin 256, mDL m c (tok i l) (j 0) * (mCodes m c (ix2 (tok i l) (j 1)) * mScale m c (ix1 (tok i l)))

/-- The gradient through the router of the point's tokens. -/
def pointDx (i : ℕ) : Vec Ideal S256x6144 .bf16 := fun j => ∑ e : Fin 16, mDL m c (tok i (j 0)) e * mWr m c (ix2 (j 1) e)

/-- The gradient of the logits of the point's tokens. -/
def pointDl (i : ℕ) : Vec Ideal S16x256 .f32 := fun j => mDL m c (tok i (j 1)) (j 0)

/-- The weight gradients of the choices of the point's tokens. -/
def pointDw (i : ℕ) : Vec Ideal S4x256 .f32 := fun j => DW (mDots m c) (mSlot m c (ix2 (tok i (j 1)) (j 0)))

/-- What the accumulator holds when the body's products begin: zero at the first point, else what the point before left. -/
def prior (t : Fin cfg0.N) : Vec Ideal S16x6144 .f32 :=
  if t.val % 20 = 0 then fun _ => (0 : EReal) else (outsAt0 m c (t.val - 1) (lt_of_le_of_lt (Nat.sub_le _ _) t.isLt)).2.1

/-- A point's product, over what was there, adds the point's part. -/
theorem dwr_point (t : Fin cfg0.N) (dl : FVec Ideal S16x256 .f32) (hdl : ∀ e l, dl (ix2 e l) = mDL m c (tok t.val l) e)
    (acc : Vec Ideal S16x6144 .f32) :
    dwrBlock dl (iblk m c 4 t) (iblk m c 5 t) acc = fun j => acc j + part m c t.val j := by
  funext j
  refine congrArg (acc j + ·) (Finset.sum_congr rfl fun l _ => ?_)
  exact congrArg₂ (· * ·) (hdl (j 0) l) (congrArg₂ (· * ·) (blk5 m c t l (j 1)) (blk4 m c t l))

/-- A point's tokens' gradient through the router. -/
theorem dx_point (t : Fin cfg0.N) (dl : FVec Ideal S16x256 .f32) (hdl : ∀ e l, dl (ix2 e l) = mDL m c (tok t.val l) e) :
    dxBlock dl (iblk m c 6 t) = pointDx m c t.val := by
  funext j
  refine Finset.sum_congr rfl fun e _ => ?_
  exact congrArg₂ (· * ·) (hdl e (j 0)) (blk6 m c t e (j 1))

include hr in
/-- What point `t` leaves in the four outputs. -/
theorem outs_point (t : Fin cfg0.N) :
    outsAt0 m c t.val t.isLt
      = (pointDx m c t.val, (fun j => prior m c t j + part m c t.val j), pointDl m c t.val, pointDw m c t.val) := by
  by_cases h0 : t.val % 20 = 0
  · rw [outsAt0_A m c t h0, out_A_9, out_A_10, out_A_11, out_A_12, prior, if_pos h0]
    refine congrArg₂ Prod.mk (dx_point m c t _ (dl_point m c hr t _ _ _ _ _ _ _ _ _ _ _ _))
      (congrArg₂ Prod.mk (dwr_point m c t _ (dl_point m c hr t _ _ _ _ _ _ _ _ _ _ _ _) _)
        (congrArg₂ Prod.mk (funext fun j => ?_) (funext fun j => dw_point m c hr t _ _ _ _ _ _ (j 0) (j 1))))
    exact (congrArg _ (eq_ix2 j)).trans (dl_point m c hr t _ _ _ _ _ _ _ _ _ _ _ _ (j 0) (j 1))
  · rw [outsAt0_B m c t h0, out_B_9, out_B_10, out_B_11, out_B_12, prior, if_neg h0]
    refine congrArg₂ Prod.mk (dx_point m c t _ (dl_point m c hr t _ _ _ _ _ _ _ _ _ _ _ _))
      (congrArg₂ Prod.mk (dwr_point m c t _ (dl_point m c hr t _ _ _ _ _ _ _ _ _ _ _ _) _)
        (congrArg₂ Prod.mk (funext fun j => ?_) (funext fun j => dw_point m c hr t _ _ _ _ _ _ (j 0) (j 1))))
    exact (congrArg _ (eq_ix2 j)).trans (dl_point m c hr t _ _ _ _ _ _ _ _ _ _ _ _ (j 0) (j 1))

include hr in
/-- After point `n` the accumulator holds the sum of the parts of the points so far. -/
theorem acc_eq (n : ℕ) (hn : n < cfg0.N) :
    (outsAt0 m c n hn).2.1 = fun j => ∑ i ∈ Finset.range (n + 1), part m c i j := by
  induction n with
  | zero =>
    have h := congrArg (fun o => o.2.1) (outs_point m c hr ⟨0, hn⟩)
    refine h.trans (funext fun j => ?_)
    show prior m c ⟨0, hn⟩ j + part m c 0 j = _
    rw [prior, if_pos (by dsimp only), Finset.sum_range_one, zero_add]
  | succ n ih =>
    have h20 : n + 1 < 20 := pt_lt ⟨n + 1, hn⟩
    have h := congrArg (fun o => o.2.1) (outs_point m c hr ⟨n + 1, hn⟩)
    refine h.trans (funext fun j => ?_)
    show prior m c ⟨n + 1, hn⟩ j + part m c (n + 1) j = _
    rw [prior, if_neg (by dsimp only; omega), Finset.sum_range_succ]
    exact congrArg (· + part m c (n + 1) j) (congrFun (ih (Nat.lt_of_succ_lt hn)) j)

/-! ## The result arrays -/

include hr in
/-- The first result: the tokens' gradient through the router. -/
theorem final9 : (dats m 0 c).arrAt 9 cfg0.N = fun j => ∑ e : Fin 16, mDL m c (j 0) e * mWr m c (ix2 (j 1) e) := by
  refine (dats m 0 c).arrAt_eq_of_covers 9 _ (by decide +kernel) fun t hf y => ?_
  blk_simp
  rw [after0_9, outs_point m c hr]
  have h := tok_val t (y 0)
  refine congrArg₂ (fun T d => ∑ e : Fin 16, mDL m c T e * mWr m c (ix2 d e)) (Fin.ext ?_) (Fin.ext ?_)
  · blk_simp [idx t, h]
    omega
  · blk_simp [idx t, h]

include hr in
/-- The third result: the gradient of the logits, transposed. -/
theorem final11 : (dats m 0 c).arrAt 11 cfg0.N = fun j => mDL m c (j 1) (j 0) := by
  refine (dats m 0 c).arrAt_eq_of_covers 11 _ (by decide +kernel) fun t hf y => ?_
  blk_simp
  rw [after0_11, outs_point m c hr]
  have h := tok_val t (y 1)
  refine congrArg₂ (mDL m c) (Fin.ext ?_) (Fin.ext ?_)
  · blk_simp [idx t, h]
    omega
  · blk_simp [idx t, h]

include hr in
/-- The fourth result: the choices' weight gradients, transposed. -/
theorem final12 : (dats m 0 c).arrAt 12 cfg0.N = fun j => DW (mDots m c) (mSlot m c (ix2 (j 1) (j 0))) := by
  refine (dats m 0 c).arrAt_eq_of_covers 12 _ (by decide +kernel) fun t hf y => ?_
  blk_simp
  rw [after0_12, outs_point m c hr]
  have h := tok_val t (y 1)
  refine congrArg₂ (fun T k => DW (mDots m c) (mSlot m c (ix2 T k))) (Fin.ext ?_) (Fin.ext ?_)
  · blk_simp [idx t, h]
    omega
  · blk_simp [idx t, h]

/-- The grid's last point. -/
abbrev lastPt : Fin cfg0.N := ⟨19, by decide +kernel⟩

include hr in
/-- The second result: the weights' gradient, transposed. -/
theorem final10 : (dats m 0 c).arrAt 10 cfg0.N
    = fun j => ∑ T : Fin 5120, mDL m c T (j 0) * (mCodes m c (ix2 T (j 1)) * mScale m c (ix1 T)) := by
  refine (dats m 0 c).arrAt_eq_of_after_last 10 lastPt (by decide +kernel) _ fun j => ?_
  blk_simp
  rw [after0_10, acc_eq m c hr]
  exact sum_tokens fun T => mDL m c T (j 0) * (mCodes m c (ix2 T (j 1)) * mScale m c (ix1 T))

end Cert.KernelIdeal.RefValue

end
-- ==== Proof.HostR.lean ====
/- The reference's results as functions of its arguments: its host operations read at an index, and its one kernel (the
   weights' gradient) as a sum over all tokens. -/
module

public import proofs.«01_k».proof.Proof.Gen.ReferenceIdeal.Value
public import proofs.«01_k».proof.Proof.Tokens
public import Idealize.ShloMosaic.Lib.Claim
public import Idealize.ShloMosaic.Lib.StableHlo.ReadAt
public import Idealize.ShloMosaic.Lib.Pipeline.ValueKit

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.Router

/-! ## The slots' gather -/

/-- A start index of the gather: the slot raised to zero, with numpy's wrap of a negative index (which never applies). -/
def start (slot : S5120x4.Idx → BitVec 32) : S4x5120x1.Idx → BitVec 32 :=
  broadcastInDim S4x5120x1 ![0, 1] bcast_S4x5120_S4x5120x1_0_1
    (select
      (cmpi CmpIPredicate.slt
        (maxsi (transpose S4x5120 [1, 0] slot transposes_S5120x4_S4x5120_1_0)
          (broadcastInDim S4x5120 ![] bcast_S_S4x5120 (constantI S_ 32 0#32)))
        (broadcastInDim S4x5120 ![] bcast_S_S4x5120 (constantI S_ 32 0#32)))
      (addi
        (maxsi (transpose S4x5120 [1, 0] slot transposes_S5120x4_S4x5120_1_0)
          (broadcastInDim S4x5120 ![] bcast_S_S4x5120 (constantI S_ 32 0#32)))
        (broadcastInDim S4x5120 ![] bcast_S_S4x5120 (constantI S_ 32 25600#32)))
      (maxsi (transpose S4x5120 [1, 0] slot transposes_S5120x4_S4x5120_1_0)
        (broadcastInDim S4x5120 ![] bcast_S_S4x5120 (constantI S_ 32 0#32))))

/-- The start index, from the slot's word. -/
theorem start_apply (slot : S5120x4.Idx → BitVec 32) (k : Fin 4) (T : Fin 5120) :
    start slot (ValueIdx.takeIdx (ix2 k T))
      = Scalar.select (IntOp.cmpi .slt (IntOp.maxsi (slot (ix2 T k)) 0#32) 0#32)
          (IntOp.addi (IntOp.maxsi (slot (ix2 T k)) 0#32) 25600#32) (IntOp.maxsi (slot (ix2 T k)) 0#32) := by
  rw [eq_ix3 (ValueIdx.takeIdx (ix2 k T))]
  pointwise [start]

/-- At a kept slot the start index is the slot. -/
theorem start_kept (n : ℕ) (h : n < 25600) :
    Scalar.select (IntOp.cmpi .slt (IntOp.maxsi (BitVec.ofNat 32 n) 0#32) 0#32)
      (IntOp.addi (IntOp.maxsi (BitVec.ofNat 32 n) 0#32) 25600#32) (IntOp.maxsi (BitVec.ofNat 32 n) 0#32) = BitVec.ofNat 32 n := by
  have h0 := slt_ofNat n h
  have h1 : IntOp.maxsi (BitVec.ofNat 32 n) 0#32 = BitVec.ofNat 32 n := by
    simp only [IntOp.maxsi]
    split
    · rfl
    · rename_i hs
      have h1 : (BitVec.ofNat 32 n).toNat = n := by rw [BitVec.toNat_ofNat]; omega
      have h2 : (BitVec.ofNat 32 n).toInt = n := by rw [BitVec.toInt_eq_toNat_of_lt (by omega), h1]
      have h3 : n = 0 := by
        rw [BitVec.slt, h2] at hs
        simp at hs
        exact hs
      rw [h3]
  rw [h1]
  have h0' : (BitVec.ofNat 32 n).slt 0#32 = false := h0
  simp only [Scalar.select, IntOp.cmpi, h0']
  rfl

/-- The reference's weight gradient of a choice: the gathered one where the slot is kept, else zero. -/
theorem dw_ref (d : S25600.Idx → EReal) (slot ids : S5120x4.Idx → BitVec 32) (hr : Routed slot ids) (k : Fin 4) (T : Fin 5120) :
    Scalar.select (IntOp.cmpi .sge (slot (ix2 T k)) 0#32)
      (Host.gather gather_S25600_S4x5120x1_S4x5120_n_0_n_n_0_2_1 d (start slot) (ix2 k T)) (0 : EReal) = DW d (slot (ix2 T k)) := by
  rcases (hr T).1 k with hneg | ⟨e, r, _, hsl⟩
  · rw [DW_dropped _ _ hneg, select_dropped _ _ _ hneg]
  · have hg : Host.gather gather_S25600_S4x5120x1_S4x5120_n_0_n_n_0_2_1 d (start slot) (ix2 k T)
        = d (ix1 ⟨min (start slot (ValueIdx.takeIdx (ix2 k T))).toInt.toNat (25600 - 1), by omega⟩) :=
      ValueIdx.gather_take_apply (by omega) gather_S25600_S4x5120x1_S4x5120_n_0_n_n_0_2_1_wf d (start slot) (ix2 k T)
    rw [hg, hsl, select_kept, DW_kept]
    congr 2
    apply Fin.ext
    dsimp only
    have h1 : (BitVec.ofNat 32 (1600 * e.val + r.val)).toNat = 1600 * e.val + r.val := by
      rw [BitVec.toNat_ofNat]; exact Nat.mod_eq_of_lt (by omega)
    have h2 : (BitVec.ofNat 32 (1600 * e.val + r.val)).toInt = ((1600 * e.val + r.val : ℕ) : ℤ) := by
      rw [BitVec.toInt_eq_toNat_of_lt (by omega), h1]
    rw [start_apply, hsl, start_kept _ (by omega), h2, Int.toNat_natCast]
    omega

/-! ## The host's results -/

variable (m : (ℓ : Loc nD τ sig) → Buf (Elt Ideal) ℓ) (c : Dev nD)

/-- The slots' weight gradients. -/
abbrev mDots : S25600.Idx → EReal := m ((c : Thread nD τ).loc main_arg0)
/-- The slots of the tokens' choices. -/
abbrev mSlot : S5120x4.Idx → BitVec 32 := m ((c : Thread nD τ).loc main_arg1)
/-- The experts of the tokens' choices. -/
abbrev mIds : S5120x4.Idx → BitVec 32 := m ((c : Thread nD τ).loc main_arg2)
/-- The logits. -/
abbrev mLogits : S5120x16.Idx → EReal := m ((c : Thread nD τ).loc main_arg3)
/-- The inputs' codes. -/
abbrev mCodes : S5120x6144.Idx → EReal := m ((c : Thread nD τ).loc main_arg4)
/-- The inputs' scales. -/
abbrev mScale : S5120.Idx → EReal := m ((c : Thread nD τ).loc main_arg5)
/-- The router's weights. -/
abbrev mWr : S6144x16.Idx → EReal := m ((c : Thread nD τ).loc main_arg6)
/-- The experts' loads. -/
abbrev mLoad : S16.Idx → EReal := m ((c : Thread nD τ).loc main_arg7)
/-- The balance coefficient. -/
abbrev mAux : S1.Idx → EReal := m ((c : Thread nD τ).loc main_arg8)

/-- The gradient of token `T`'s logit for expert `e`. -/
abbrev mDL (T : Fin 5120) (e : Fin 16) : EReal :=
  tokenDL (mDots m c) (mSlot m c) (mIds m c) (mLogits m c) (mLoad m c) (mAux m c) T e

/-- The scalar zero that the host's selections fall back on. -/
theorem zero_word : (id (constant (F := Ideal) S_ FTy.f32 0#32) ix0 : EReal) = 0 := by
  show (constant (F := Ideal) S_ FTy.f32 0#32 : S_.Idx → EReal) ix0 = 0
  pointwise []

variable (hr : Routed (mSlot m c) (mIds m c))

include hr in
/-- The fourth result, at an index: the choice's weight gradient. -/
theorem v12_apply (k : Fin 4) (T : Fin 5120) :
    (V m c main_v12 : S4x5120.Idx → EReal) (ix2 k T) = DW (mDots m c) (mSlot m c (ix2 T k)) := by
  simp only [V, hostOps0, hostOps0_1, hostOps0_2, hostOps0_3, hostOps0_4, hostOps0_5, hostOps0_6, List.flatten_cons, List.flatten_nil,
    List.append_nil, List.cons_append, List.nil_append]
  after_reads_at
  rw [zero_word]
  exact dw_ref (mDots m c) (mSlot m c) (mIds m c) hr k T

include hr in
/-- The third result, at an index: the gradient of the token's logit. -/
theorem v77_apply (e : Fin 16) (T : Fin 5120) : (V m c main_v77 : S16x5120.Idx → EReal) (ix2 e T) = mDL m c T e := by
  simp only [V, hostOps0, hostOps0_1, hostOps0_2, hostOps0_3, hostOps0_4, hostOps0_5, hostOps0_6, List.flatten_cons, List.flatten_nil,
    List.append_nil, List.cons_append, List.nil_append]
  after_reads_at
  rw [zero_word]
  unfold mDL tokenDL
  rw [show (fun k => DW (mDots m c) (mSlot m c (ix2 T k))) = _ from
    funext fun k => (dw_ref (mDots m c) (mSlot m c) (mIds m c) hr k T).symm]
  rfl

end Cert.ReferenceIdeal.RefValue

end
-- ==== Proof.Weights.lean ====
/- The reference's first two results: the tokens' gradient through the router and the weights' gradient, from the
   gradient of the logits. -/
module

public import proofs.«01_k».proof.Proof.HostR

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.Router

variable (m : (ℓ : Loc nD τ sig) → Buf (Elt Ideal) ℓ) (c : Dev nD)

/-- The gradient of the logits by token, as both products read it. -/
theorem v79_eq (T : Fin 5120) (e : Fin 16) :
    (V m c main_v79 : S5120x16.Idx → EReal) (ix2 T e) = (V m c main_v77 : S16x5120.Idx → EReal) (ix2 e T) := by
  simp only [V, hostOps0, hostOps0_1, hostOps0_2, hostOps0_3, hostOps0_4, hostOps0_5, hostOps0_6, List.flatten_cons, List.flatten_nil,
    List.append_nil, List.cons_append, List.nil_append]
  after_reads_at

/-- The gradient of the logits, as the region finds it. -/
abbrev hDL : S16x5120.Idx → EReal := V m c main_v77

/-- The tokens' gradient through the router, as the region finds it. -/
abbrev hDx : S5120x6144.Idx → EReal := V m c main_v81

set_option maxHeartbeats 2000000 in
/-- The first result, at an index. -/
theorem v81_eq (T : Fin 5120) (d : Fin 6144) : hDx m c (ix2 T d) = ∑ e : Fin 16, hDL m c (ix2 e T) * mWr m c (ix2 d e) := by
  unfold hDx hDL
  simp only [V, hostOps0, hostOps0_1, hostOps0_2, hostOps0_3, hostOps0_4, hostOps0_5, hostOps0_6, List.flatten_cons, List.flatten_nil,
    List.append_nil, List.cons_append, List.nil_append]
  after_reads_at

/-- The inputs' scales, as a column. -/
theorem v82_apply (T : Fin 5120) : (V m c main_v82 : S5120x1.Idx → EReal) (ix2 T 0) = mScale m c (ix1 T) := by
  simp only [V, hostOps0, hostOps0_1, hostOps0_2, hostOps0_3, hostOps0_4, hostOps0_5, hostOps0_6, List.flatten_cons, List.flatten_nil,
    List.append_nil, List.cons_append, List.nil_append]
  after_reads_at

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The kernel's product at an index: the sum over all tokens. -/
theorem pay_apply (codes : Vec Ideal S5120x6144 .fp8e4m3) (xs : Vec Ideal S5120x1 .f32) (db : Vec Ideal S5120x16 .bf16) (e : Fin 16)
    (d : Fin 6144) :
    k0_pay1 (F := Ideal) codes xs db (ix2 e d) = ∑ T : Fin 5120, db (ix2 T e) * (codes (ix2 T d) * xs (ix2 T 0)) := by
  pointwise [k0_pay1]

/-- The kernel's first block is the gradient of the logits, whole. -/
theorem blk0 (t : Fin cfg0.N) (T : Fin 5120) (e : Fin 16) :
    (iblk m c 0 t : S5120x16.Idx → EReal) (ix2 T e) = (V m c main_v79 : S5120x16.Idx → EReal) (ix2 T e) := by
  blk_ext [iblk, idx t]

/-- The second is the inputs' codes, whole. -/
theorem blk1 (t : Fin cfg0.N) (T : Fin 5120) (d : Fin 6144) :
    (iblk m c 1 t : S5120x6144.Idx → EReal) (ix2 T d) = (V m c main_arg4 : S5120x6144.Idx → EReal) (ix2 T d) := by
  blk_ext [iblk, idx t]

/-- The third is the inputs' scales, whole. -/
theorem blk2 (t : Fin cfg0.N) (T : Fin 5120) :
    (iblk m c 2 t : S5120x1.Idx → EReal) (ix2 T 0) = (V m c main_v82 : S5120x1.Idx → EReal) (ix2 T 0) := by
  blk_ext [iblk, idx t]

/-- The grid's only point. -/
abbrev onePt : Fin cfg0.N := ⟨0, by decide +kernel⟩

variable (hr : Routed (mSlot m c) (mIds m c))

include hr in
/-- The second result: the weights' gradient, transposed. -/
theorem final3 : (dats m 0 c).arrAt 3 cfg0.N
    = fun j => ∑ T : Fin 5120, mDL m c T (j 0) * (mCodes m c (ix2 T (j 1)) * mScale m c (ix1 T)) := by
  refine (dats m 0 c).arrAt_eq_of_after_last 3 onePt (by decide +kernel) _ fun j => ?_
  blk_simp
  rw [after0_3]
  unfold out0_3
  rw [View.canon_unit_zero (by decide), View.ld_unit_zero (by decide), View.ld_unit_zero (by decide), View.ld_unit_zero (by decide), eq_ix2 j]
  refine (pay_apply _ _ _ (j 0) (j 1)).trans (Finset.sum_congr rfl fun T _ => congrArg₂ (· * ·) ?_ (congrArg₂ (· * ·) ?_ ?_))
  · exact (blk0 m c onePt T (j 0)).trans ((v79_eq m c T (j 0)).trans (v77_apply m c hr (j 0) T))
  · exact (blk1 m c onePt T (j 1)).trans (congrFun (V_main_arg4 m c) (ix2 T (j 1)))
  · exact (blk2 m c onePt T).trans (v82_apply m c T)

end Cert.ReferenceIdeal.RefValue

end
-- ==== Proof.Routed.lean ====
/- What the precondition says, token by token: every choice is dropped or has its slot among its expert's 1600, and a
   token's experts differ. -/
module

public import proofs.«01_k».proof.Proof.Gen.Pre_routed
public import proofs.«01_k».proof.Proof.Tokens
public import Idealize.ShloMosaic.Lib.Pointwise
public import Idealize.ShloMosaic.Lib.ReduceAll

@[expose] public section

set_option maxRecDepth 16384

noncomputable section

namespace Cert.Pre_routed

open Idealize.ShloMosaic Idealize.SL.Sem
open Cert.Router

/-- A word's sign, as the precondition's floor division writes it. -/
def signWord (s : BitVec 32) : BitVec 32 := if s = 0 then 0 else if s.msb = true then -1 else 1

/-- The precondition's floor division of a slot's word by the 1600 slots of an expert. -/
def expertOf (s : BitVec 32) : BitVec 32 :=
  Scalar.select (IntOp.andi (IntOp.cmpi .ne (signWord s) (signWord 1600#32)) (IntOp.cmpi .ne (IntOp.remsi .host s 1600#32) 0#32))
    (IntOp.subi (IntOp.divsi .host s 1600#32) 1#32) (IntOp.divsi .host s 1600#32)

/-- On the experts' slots it is the quotient. -/
theorem expertOf_eq : ∀ (e : Fin 16) (r : Fin 1600), expertOf (BitVec.ofNat 32 (1600 * e.val + r.val)) = BitVec.ofNat 32 e.val := by
  decide +kernel

/-- A word that is not negative and is below 25600 is some expert's slot. -/
theorem slot_of_bounds (s : BitVec 32) (h0 : ¬s.slt 0 = true) (h1 : s.slt 25600#32 = true) :
    ∃ (e : Fin 16) (r : Fin 1600), s = BitVec.ofNat 32 (1600 * e.val + r.val) := by
  have hz : (0 : BitVec 32).toInt = 0 := rfl
  have hc : (25600#32).toInt = 25600 := rfl
  rw [BitVec.slt, hz, decide_eq_true_eq] at h0
  rw [BitVec.slt, hc, decide_eq_true_eq] at h1
  have hi := BitVec.toInt_eq_toNat_cond s
  have hn : s.toNat < 25600 := by
    have := s.isLt
    split at hi <;> omega
  refine ⟨⟨s.toNat / 1600, by omega⟩, ⟨s.toNat % 1600, by omega⟩, ?_⟩
  apply BitVec.eq_of_toNat_eq
  rw [BitVec.toNat_ofNat]
  dsimp only
  omega

/-- A comparison's word is one exactly where the comparison holds. -/
theorem slt_one (a b : BitVec 32) (h : IntOp.cmpi .slt a b = 1#1) : a.slt b = true := by
  revert h
  simp only [IntOp.cmpi]
  cases a.slt b <;> decide

/-- An equality's word is one exactly where the words are equal. -/
theorem eq_one (a b : BitVec 32) (h : IntOp.cmpi .eq a b = 1#1) : a = b := by
  by_contra hn
  have : (a == b) = false := by simpa using hn
  simp [IntOp.cmpi, this] at h

/-- An inequality's word is one exactly where the words differ. -/
theorem ne_one (a b : BitVec 32) (h : IntOp.cmpi .ne a b = 1#1) : a ≠ b := by
  rintro rfl
  simp [IntOp.cmpi] at h

/-- A disjunction's word is one only where a disjunct's is. -/
theorem ori_one : ∀ a b : BitVec 1, IntOp.ori a b = 1#1 → a = 1#1 ∨ b = 1#1 := by decide

/-- THE PRECONDITION, TOKEN BY TOKEN. -/
theorem routed_of_fn (a0 : FVec Ideal S25600 .f32) (slot ids : IVec S5120x4 32) (a3 : FVec Ideal S5120x16 .f32)
    (a4 : FVec Ideal S5120x6144 .fp8e4m3) (a5 : FVec Ideal S5120 .f32) (a6 : FVec Ideal S6144x16 .bf16) (a7 : FVec Ideal S16 .f32)
    (a8 : FVec Ideal S1 .f32) (h : fn (F := Ideal) a0 slot ids a3 a4 a5 a6 a7 a8 = fun _ => 1#1) : Routed slot ids := by
  have h0 := congrFun h ix0
  dsimp only [fn, fn_part1, fn_part2] at h0
  have hb := IntOp.andi_eq_one.mp (show IntOp.andi _ _ = 1#1 from h0)
  refine fun T => ⟨fun k => ?_, ?_⟩
  · have hp := Host.reduce_andi_all _ _ _ _ _ hb.1 (ix2 T k)
    pointwise [fn_floor_divide, fn_where] at hp
    rcases ori_one _ _ hp with hneg | hkept
    · exact Or.inl (slt_one _ _ hneg)
    · have hk := IntOp.andi_eq_one.mp hkept
      by_cases hneg : (slot (ix2 T k)).slt 0 = true
      · exact Or.inl hneg
      · obtain ⟨e, r, hs⟩ := slot_of_bounds _ hneg (slt_one _ _ hk.1)
        have hid : ids (ix2 T k) = expertOf (slot (ix2 T k)) := eq_one _ _ hk.2
        exact Or.inr ⟨e, r, hid.trans ((congrArg expertOf hs).trans (expertOf_eq e r)), hs⟩
  · have hd := Host.reduce_andi_all _ _ _ _ _ hb.2 (ix1 T)
    pointwise [] at hd
    simp only [IntOp.andi_eq_one] at hd
    obtain ⟨⟨⟨⟨⟨h10, h20⟩, h21⟩, h30⟩, h31⟩, h32⟩ := hd
    have key : ∀ k k' : Fin 4, k' < k → ids (ix2 T k) ≠ ids (ix2 T k') := by
      intro k k' hlt
      rcases (by decide : ∀ k k' : Fin 4, k' < k → (k = 1 ∧ k' = 0) ∨ (k = 2 ∧ k' = 0) ∨ (k = 2 ∧ k' = 1) ∨ (k = 3 ∧ k' = 0)
        ∨ (k = 3 ∧ k' = 1) ∨ (k = 3 ∧ k' = 2)) k k' hlt with ⟨rfl, rfl⟩ | ⟨rfl, rfl⟩ | ⟨rfl, rfl⟩ | ⟨rfl, rfl⟩ | ⟨rfl, rfl⟩ | ⟨rfl, rfl⟩
      · exact ne_one _ _ h10
      · exact ne_one _ _ h20
      · exact ne_one _ _ h21
      · exact ne_one _ _ h30
      · exact ne_one _ _ h31
      · exact ne_one _ _ h32
    intro k k' hne
    rcases lt_or_gt_of_ne hne with hlt | hlt
    · exact (key k' k hlt).symm
    · exact key k k' hlt

end Cert.Pre_routed

end
-- ==== Proof.Agree.lean ====
/- The reference's four results, as functions of the arguments the kernel read, and their agreement with the kernel's. -/
module

public import proofs.«01_k».proof.Proof.Arrays
public import proofs.«01_k».proof.Proof.Weights
public import proofs.«01_k».proof.Proof.Routed

@[expose] public section

set_option maxRecDepth 16384

noncomputable section

namespace Cert.Agree

open Idealize.ShloMosaic Idealize.ShloMosaic.TcCoe Idealize.SL.Sem Cert.Router

/-- The kernel's memory. -/
abbrev KMem := (ℓ : Loc Cert.KernelIdeal.nD Cert.KernelIdeal.τ Cert.KernelIdeal.sig) → Buf (Elt Ideal) ℓ

/-- The reference's memory. -/
abbrev RMem := (ℓ : Loc Cert.ReferenceIdeal.nD Cert.ReferenceIdeal.τ Cert.ReferenceIdeal.sig) → Buf (Elt Ideal) ℓ

open Cert.KernelIdeal.RefValue in
/-- The two programs start from the same nine arguments. -/
structure Same (m : KMem) (m' : RMem) (c : Dev Cert.KernelIdeal.nD) : Prop where
  dots : Cert.ReferenceIdeal.RefValue.mDots m' c = mDots m c
  slot : Cert.ReferenceIdeal.RefValue.mSlot m' c = mSlot m c
  ids : Cert.ReferenceIdeal.RefValue.mIds m' c = mIds m c
  logits : Cert.ReferenceIdeal.RefValue.mLogits m' c = mLogits m c
  codes : Cert.ReferenceIdeal.RefValue.mCodes m' c = mCodes m c
  scale : Cert.ReferenceIdeal.RefValue.mScale m' c = mScale m c
  wr : Cert.ReferenceIdeal.RefValue.mWr m' c = mWr m c
  load : Cert.ReferenceIdeal.RefValue.mLoad m' c = mLoad m c
  aux : Cert.ReferenceIdeal.RefValue.mAux m' c = mAux m c

variable {m : KMem} {m' : RMem} {c : Dev Cert.KernelIdeal.nD} (h : Same m m' c)
  (hr : Routed (Cert.KernelIdeal.RefValue.mSlot m c) (Cert.KernelIdeal.RefValue.mIds m c))

include h in
/-- From the same arguments the logits' gradients are the same. -/
theorem dl_same (T : Fin 5120) (e : Fin 16) :
    Cert.ReferenceIdeal.RefValue.mDL m' c T e = Cert.KernelIdeal.RefValue.mDL m c T e := by
  unfold Cert.ReferenceIdeal.RefValue.mDL
  rw [h.dots, h.slot, h.ids, h.logits, h.load, h.aux]

include h hr in
/-- The reference's choices are routed as the kernel's are. -/
theorem routed_same : Routed (Cert.ReferenceIdeal.RefValue.mSlot m' c) (Cert.ReferenceIdeal.RefValue.mIds m' c) := by
  rw [h.slot, h.ids]
  exact hr

include h hr in
/-- The first result: the tokens' gradient through the router. -/
theorem dx_same : (Cert.ReferenceIdeal.Gen.V m' c Cert.ReferenceIdeal.main_v81 : Cert.KernelIdeal.S5120x6144.Idx → EReal)
    = (Cert.KernelIdeal.Gen.dats m 0 c).arrAt 9 Cert.KernelIdeal.cfg0.N := by
  refine Eq.trans ?_ (Cert.KernelIdeal.RefValue.final9 m c hr).symm
  funext j
  rw [eq_ix2 j]
  refine (Cert.ReferenceIdeal.RefValue.v81_eq m' c (j 0) (j 1)).trans ?_
  refine Finset.sum_congr rfl fun e _ => ?_
  refine congrArg₂ (· * ·) ((Cert.ReferenceIdeal.RefValue.v77_apply m' c (routed_same h hr) e (j 0)).trans (dl_same h (j 0) e)) ?_
  exact congrFun h.wr _

include h hr in
/-- The second result: the router weights' gradient. -/
theorem dwr_same : ((Cert.ReferenceIdeal.Gen.dats m' 0 c).arrAt 3 Cert.ReferenceIdeal.cfg0.N : Cert.KernelIdeal.S16x6144.Idx → EReal)
    = (Cert.KernelIdeal.Gen.dats m 0 c).arrAt 10 Cert.KernelIdeal.cfg0.N := by
  refine Eq.trans (Cert.ReferenceIdeal.RefValue.final3 m' c (routed_same h hr)) (Eq.trans ?_ (Cert.KernelIdeal.RefValue.final10 m c hr).symm)
  funext j
  refine Finset.sum_congr rfl fun T _ => ?_
  exact congrArg₂ (· * ·) (dl_same h T (j 0)) (congrArg₂ (· * ·) (congrFun h.codes _) (congrFun h.scale _))

include h hr in
/-- The third result: the logits' gradient. -/
theorem dl_result_same : (Cert.ReferenceIdeal.Gen.V m' c Cert.ReferenceIdeal.main_v77 : Cert.KernelIdeal.S16x5120.Idx → EReal)
    = (Cert.KernelIdeal.Gen.dats m 0 c).arrAt 11 Cert.KernelIdeal.cfg0.N := by
  refine Eq.trans ?_ (Cert.KernelIdeal.RefValue.final11 m c hr).symm
  funext j
  rw [eq_ix2 j]
  exact (Cert.ReferenceIdeal.RefValue.v77_apply m' c (routed_same h hr) (j 0) (j 1)).trans (dl_same h (j 1) (j 0))

include h hr in
/-- The fourth result: the gradient of every choice's weight. -/
theorem dw_same : (Cert.ReferenceIdeal.Gen.V m' c Cert.ReferenceIdeal.main_v12 : Cert.KernelIdeal.S4x5120.Idx → EReal)
    = (Cert.KernelIdeal.Gen.dats m 0 c).arrAt 12 Cert.KernelIdeal.cfg0.N := by
  refine Eq.trans ?_ (Cert.KernelIdeal.RefValue.final12 m c hr).symm
  funext j
  rw [eq_ix2 j]
  refine (Cert.ReferenceIdeal.RefValue.v12_apply m' c (routed_same h hr) (j 0) (j 1)).trans ?_
  rw [h.dots, h.slot]
  rfl

end Cert.Agree

end
-- ==== Proof.TableWords.lean ====
/- The words of the plan's table: a slot's token is a quarter of its source row, rounded down, and an empty slot (a
   negative source) has the token minus one and the weight zero. The kernel shifts and the reference divides. -/
module

public import Idealize.ShloMosaic.Lib.Pipeline.ValueKit

@[expose] public section

noncomputable section

namespace Cert.PlanTable

open Idealize.ShloMosaic

/-- A slot's token, as the reference writes it: the floor division of its source row by four, minus one if it is empty. -/
def refToken (s : BitVec 32) : BitVec 32 :=
  Scalar.select (IntOp.cmpi .sge s 0#32)
    (Scalar.select
      (IntOp.andi
        (IntOp.cmpi .ne (if s = 0 then 0 else if s.msb = true then -1 else 1 : BitVec 32)
          (if (4#32 : BitVec 32) = 0 then 0 else if (4#32 : BitVec 32).msb = true then -1 else 1 : BitVec 32))
        (IntOp.cmpi .ne (IntOp.remsi .host s 4#32) 0#32))
      (IntOp.subi (IntOp.divsi .host s 4#32) 1#32) (IntOp.divsi .host s 4#32))
    4294967295#32

/-- A slot's token, as the kernel writes it: its source row shifted right by two bits, minus one if it is empty. -/
def token (s : BitVec 32) : BitVec 32 :=
  Scalar.select (IntOp.cmpi .sge s 0#32) (IntOp.shrsi .vector s 2#32) 4294967295#32

/-- A word is at least zero exactly where its top bit is clear. -/
theorem sge_zero (s : BitVec 32) : IntOp.cmpi .sge s 0#32 = BitVec.ofBool (!s.msb) := by
  show BitVec.ofBool ((0#32).sle s) = _
  rw [BitVec.msb_eq_toInt, BitVec.sle]
  congr 1
  have : (0#32).toInt = 0 := rfl
  rw [this]
  by_cases h : 0 ≤ s.toInt
  · simp [h]
  · simp [h]; omega

/-- A nonnegative word shifted right by two bits is its quotient by four. -/
theorem shift_eq_div (s : BitVec 32) (h : s.msb = false) : IntOp.shrsi .vector s 2#32 = s.sdiv 4#32 := by
  have h4 : (4#32).msb = false := by decide
  rw [IntOp.shrsi, if_pos (by decide), BitVec.sshiftRight', BitVec.sshiftRight_eq_of_msb_false h, BitVec.sdiv_eq, h, h4]
  apply BitVec.eq_of_toNat_eq
  show (s >>> 2).toNat = (s / 4#32).toNat
  rw [BitVec.toNat_ushiftRight, BitVec.toNat_udiv, Nat.shiftRight_eq_div_pow]
  rfl

/-- THE TOKENS AGREE at every word. -/
theorem token_eq_ref (s : BitVec 32) : token s = refToken s := by
  unfold token refToken
  rw [sge_zero]
  cases h : s.msb
  · have hd : IntOp.divsi .host s 4#32 = s.sdiv 4#32 := by
      rw [IntOp.divsi, if_neg]
      rintro (h | ⟨-, h⟩) <;> exact absurd h (by decide)
    have hr : IntOp.remsi .host s 4#32 = s.srem 4#32 := by
      rw [IntOp.remsi, if_neg]
      rintro (h | ⟨-, h⟩) <;> exact absurd h (by decide)
    rw [shift_eq_div s h, hd, hr]
    by_cases hz : s = 0
    · subst hz; decide
    · have : IntOp.cmpi .ne (if s = 0 then 0 else if false = true then -1 else 1 : BitVec 32)
          (if (4#32 : BitVec 32) = 0 then 0 else if (4#32 : BitVec 32).msb = true then -1 else 1 : BitVec 32) = 0#1 := by
        rw [if_neg hz]; decide
      rw [this]
      have hand : ∀ b : BitVec 1, IntOp.andi 0#1 b = 0#1 := by decide
      rw [hand]
      rfl
  · rfl

/-- The table at a row and a column, from the slots' source rows and weights: row `16 q + e` has expert `e`'s slots
    `32 q` to `32 q + 31`, their tokens, then their weights, then zeros. -/
def table (src : Fin 16 → Fin 1600 → BitVec 32) (w : Fin 16 → Fin 1600 → EReal) (r : Fin 800) (l : Fin 128) : EReal :=
  if h : l.val < 32 then
    Scalar.sitofp (F := Ideal) .f32 (token (src ⟨r.val % 16, by omega⟩ ⟨32 * (r.val / 16) + l.val, by omega⟩))
  else if h' : l.val < 64 then
    Scalar.select (IntOp.cmpi .sge (src ⟨r.val % 16, by omega⟩ ⟨32 * (r.val / 16) + (l.val - 32), by omega⟩) 0#32)
      (w ⟨r.val % 16, by omega⟩ ⟨32 * (r.val / 16) + (l.val - 32), by omega⟩) 0
  else 0

end Cert.PlanTable

end
-- ==== Proof.Table.lean ====
/- What the plan kernel leaves in its table, at exact arithmetic: the slots' tokens and weights, 32 slots to a row. -/
module

public import proofs.«01_k».proof.Proof.TableWords
public import proofs.«01_k».proof.Proof.Gen.PlanIdeal.Value
public import Idealize.ShloMosaic.Lib.Pipeline.ReadBack
public import Idealize.ShloMosaic.Lib.Pointwise

@[expose] public section

set_option maxRecDepth 16384

noncomputable section

namespace Cert.PlanIdeal.TableValue

open Idealize.ShloMosaic Idealize.ShloMosaic.TcCoe Idealize.SL.Sem
open Cert.PlanIdeal Cert.PlanIdeal.Gen Cert.PlanIdeal.Value Cert.PlanTable

variable {F : FTy → Type} [FloatOps F]

/-- The column blocks of a 16-row array lie in it. -/
theorem inb_cols (q : Fin 50) : ∀ a, (![0, 32 * q.val] : Fin 2 → ℕ) a + S16x32.size a ≤ S16x1600.size a := by
  revert q; decide +kernel

/-- Column block `q`: the slots `32 q` to `32 q + 31` of every expert. -/
abbrev cols (q : Fin 50) : Rect S16x1600 := Rect.unit (s := S16x1600) ![0, 32 * q.val] S16x32.size (inb_cols q)

/-- Where a column block puts an index. -/
theorem cols_emb (q : Fin 50) (e : Fin 16) (l : Fin 32) : (cols q).emb (ix2 e l) = ix2 e ⟨32 * q.val + l.val, by omega⟩ := by
  funext i
  fin_cases i <;> apply Fin.ext <;> simp [Rect.emb, Rect.unit]

/-- Fifty blocks of 16 rows stack to 800 rows. -/
theorem fits {α : Type} (v : Fin 50 → S16x32.Idx → α) :
    Shape.Concatenates ((List.ofFn fun n : Fin 50 => (⟨S16x32, v n⟩ : (s : Shape) × (s.Idx → α))).map (·.1)) S800x32 0 :=
  (concatenates_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S16x32_S800x32_d0 : Shape.Concatenates [S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32, S16x32] S800x32 0)

/-- Fifty blocks of 16 rows, stacked. -/
def stack {α : Type} (v : Fin 50 → S16x32.Idx → α) : S800x32.Idx → α :=
  concatenate S800x32 0 (List.ofFn fun n : Fin 50 => ⟨S16x32, v n⟩) (fits v)

/-- The stack at an index. -/
theorem stack_apply {α : Type} (v : Fin 50 → S16x32.Idx → α) (r : Fin 800) (l : Fin 32) :
    stack v (ix2 r l) = v ⟨r.val / 16, by omega⟩ (ix2 ⟨r.val % 16, by omega⟩ l) := by
  refine concatenate_ofFn_apply (t := S800x32) 0 v _ rfl 16 rfl (ix2 r l) ⟨r.val / 16, by omega⟩ rfl _ rfl fun b hb => ?_
  fin_cases b
  · exact absurd rfl hb
  · rfl

/-- The slots' source rows, stacked: the kernel's name for it. -/
theorem pay1_eq (v : Fin 50 → Vec F S16x32 .i32) :
    k0_pay1 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) (v 32) (v 33) (v 34) (v 35) (v 36) (v 37) (v 38) (v 39) (v 40) (v 41) (v 42) (v 43) (v 44) (v 45) (v 46) (v 47) (v 48) (v 49) = stack v := rfl

/-- The tokens' block: the kernel's name for it. -/
def tokens (v : Fin 50 → Vec F S16x32 .i32) : FVec F S800x32 .f32 :=
  k0_pay2 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) (v 32) (v 33) (v 34) (v 35) (v 36) (v 37) (v 38) (v 39) (v 40) (v 41) (v 42) (v 43) (v 44) (v 45) (v 46) (v 47) (v 48) (v 49)

/-- The weights' block: the kernel's name for it. -/
def weights (v : Fin 50 → Vec F S16x32 .i32) (w : Fin 50 → Vec F S16x32 .f32) : FVec F S800x32 .f32 :=
  k0_pay4 (k0_pay3 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) (v 32) (v 33) (v 34) (v 35) (v 36) (v 37) (v 38) (v 39) (v 40) (v 41) (v 42) (v 43) (v 44) (v 45) (v 46) (v 47) (v 48) (v 49)) (w 0) (w 1) (w 2) (w 3) (w 4) (w 5) (w 6) (w 7) (w 8) (w 9) (w 10) (w 11) (w 12) (w 13) (w 14) (w 15) (w 16) (w 17) (w 18) (w 19) (w 20) (w 21) (w 22) (w 23) (w 24) (w 25) (w 26) (w 27) (w 28) (w 29) (w 30) (w 31) (w 32) (w 33) (w 34) (w 35) (w 36) (w 37) (w 38) (w 39) (w 40) (w 41) (w 42) (w 43) (w 44) (w 45) (w 46) (w 47) (w 48) (w 49)

/-- A column block of the source rows. -/
def loadS (arg0 : Memref sig .tc .vmem S16x1600 .i32) (harg0 : arg0.IsWhole) (x0 : Vec F S16x1600 .i32) (q : Fin 50) :
    Vec F S16x32 .i32 := View.readAt (Elt F) arg0.view (cols q).toLoadRect (harg0.unread x0)

/-- A column block of the weights. -/
def loadW (arg1 : Memref sig .tc .vmem S16x1600 .f32) (harg1 : arg1.IsWhole) (x1 : Vec F S16x1600 .f32) (q : Fin 50) :
    Vec F S16x32 .f32 := View.readAt (Elt F) arg1.view (cols q).toLoadRect (harg1.unread x1)

/-- A column block of the source rows, at an index. -/
theorem loadS_apply (arg0 : Memref sig .tc .vmem S16x1600 .i32) (harg0 : arg0.IsWhole) (x0 : Vec F S16x1600 .i32) (q : Fin 50)
    (e : Fin 16) (l : Fin 32) : loadS arg0 harg0 x0 q (ix2 e l) = x0 (ix2 e ⟨32 * q.val + l.val, by omega⟩) := by
  rw [loadS, View.readAt_eq_ld, harg0.read_unread]
  exact congrArg x0 (cols_emb q e l)

/-- A column block of the weights, at an index. -/
theorem loadW_apply (arg1 : Memref sig .tc .vmem S16x1600 .f32) (harg1 : arg1.IsWhole) (x1 : Vec F S16x1600 .f32) (q : Fin 50)
    (e : Fin 16) (l : Fin 32) : loadW arg1 harg1 x1 q (ix2 e l) = x1 (ix2 e ⟨32 * q.val + l.val, by omega⟩) := by
  rw [loadW, View.readAt_eq_ld, harg1.read_unread]
  exact congrArg x1 (cols_emb q e l)

variable (c : Dev nD) (arg0 : Memref sig .tc .vmem S16x1600 .i32) (harg0 : arg0.IsWhole) (arg1 : Memref sig .tc .vmem S16x1600 .f32) (harg1 : arg1.IsWhole)
  (arg2 : Memref sig .tc .vmem S800x128 .f32) (harg2 : arg2.IsWhole) (arg3 : Memref sig .tc .vmem S8x896 .i32) (harg3 : arg3.IsWhole)
  (arg4 : Memref sig .tc .vmem S896x128 .i32) (harg4 : arg4.IsWhole)

/-- The body's stores into the table, last first: zeros, weights, tokens. -/
theorem list_2 (x0 : Vec F S16x1600 .i32) (x1 : Vec F S16x1600 .f32) :
    (kernelRun0_A c arg0 harg0 arg1 harg1 arg2 harg2 arg3 harg3 arg4 harg4 x0 x1).1
      = [⟨Rect.unit ![0, 64] S800x64.size inb_S800x128_S800x64_0_64, k0_pay5⟩,
         ⟨Rect.unit ![0, 32] S800x32.size inb_S800x128_S800x32_0_32, weights (loadS arg0 harg0 x0) (loadW arg1 harg1 x1)⟩,
         ⟨Rect.unit ![0, 0] S800x32.size inb_S800x128_S800x32_0_0, tokens (loadS arg0 harg0 x0)⟩] := rfl

/-- The tokens' block at an index. -/
theorem tokens_apply (v : Fin 50 → Vec Ideal S16x32 .i32) (r : Fin 800) (l : Fin 32) :
    tokens (F := Ideal) v (ix2 r l)
      = Scalar.sitofp (F := Ideal) .f32 (token (v ⟨r.val / 16, by omega⟩ (ix2 ⟨r.val % 16, by omega⟩ l))) := by
  rw [← stack_apply v r l, ← pay1_eq v]
  rfl

/-- The weights' block at an index. -/
theorem weights_apply (v : Fin 50 → Vec Ideal S16x32 .i32) (w : Fin 50 → Vec Ideal S16x32 .f32) (r : Fin 800) (l : Fin 32) :
    weights (F := Ideal) v w (ix2 r l)
      = Scalar.select (IntOp.cmpi .sge (v ⟨r.val / 16, by omega⟩ (ix2 ⟨r.val % 16, by omega⟩ l)) 0#32)
          (w ⟨r.val / 16, by omega⟩ (ix2 ⟨r.val % 16, by omega⟩ l)) (0 : EReal) := by
  rw [← stack_apply v r l, ← stack_apply w r l, ← pay1_eq v]
  refine Eq.trans (b := Scalar.select (IntOp.cmpi .sge ((k0_pay1 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) (v 32) (v 33) (v 34) (v 35) (v 36) (v 37) (v 38) (v 39) (v 40) (v 41) (v 42) (v 43) (v 44) (v 45) (v 46) (v 47) (v 48) (v 49) : IVec S800x32 32) (ix2 r l)) 0#32)
    (stack w (ix2 r l)) (Scalar.ofBits (F := Ideal) .f32 0x00000000#32)) rfl ?_
  exact congrArg (Scalar.select _ (stack w (ix2 r l))) Ideal.ofBits_zero_f32

/-- The zeros' block at an index. -/
theorem zeros_apply (y : S800x64.Idx) : (k0_pay5 (F := Ideal) y : EReal) = 0 := Ideal.ofBits_zero_f32

/-- The table, from the words the windows hold. -/
def tableOf (x0 : Vec Ideal S16x1600 .i32) (x1 : Vec Ideal S16x1600 .f32) : Vec Ideal S800x128 .f32 :=
  fun j => table (fun e k => x0 (ix2 e k)) (fun e k => x1 (ix2 e k)) (j 0) (j 1)

/-- Where the tokens' block puts an index. -/
theorem emb_tokens (r : Fin 800) (l : Fin 32) :
    (Rect.unit (s := S800x128) ![0, 0] S800x32.size inb_S800x128_S800x32_0_0).emb (ix2 r l) = ix2 r ⟨l.val, by omega⟩ := by
  funext i
  fin_cases i <;> apply Fin.ext <;> simp [Rect.emb, Rect.unit]

/-- Where the weights' block puts an index. -/
theorem emb_weights (r : Fin 800) (l : Fin 32) :
    (Rect.unit (s := S800x128) ![0, 32] S800x32.size inb_S800x128_S800x32_0_32).emb (ix2 r l) = ix2 r ⟨32 + l.val, by omega⟩ := by
  funext i
  fin_cases i <;> apply Fin.ext <;> simp [Rect.emb, Rect.unit]

/-- Where the zeros' block puts an index. -/
theorem emb_zeros (r : Fin 800) (l : Fin 64) :
    (Rect.unit (s := S800x128) ![0, 64] S800x64.size inb_S800x128_S800x64_0_64).emb (ix2 r l) = ix2 r ⟨64 + l.val, by omega⟩ := by
  funext i
  fin_cases i <;> apply Fin.ext <;> simp [Rect.emb, Rect.unit]

/-- The three stores are pieces of one table. -/
theorem pieces (x0 : Vec Ideal S16x1600 .i32) (x1 : Vec Ideal S16x1600 .f32) :
    View.PiecesOf (tableOf x0 x1)
      [⟨Rect.unit ![0, 64] S800x64.size inb_S800x128_S800x64_0_64, k0_pay5 (F := Ideal)⟩,
       ⟨Rect.unit ![0, 32] S800x32.size inb_S800x128_S800x32_0_32, weights (loadS arg0 harg0 x0) (loadW arg1 harg1 x1)⟩,
       ⟨Rect.unit ![0, 0] S800x32.size inb_S800x128_S800x32_0_0, tokens (loadS arg0 harg0 x0)⟩] := by
  refine ⟨fun x => ?_, fun x => ?_, fun x => ?_, trivial⟩
  · have key : ∀ (r : Fin 800) (l : Fin 64), k0_pay5 (F := Ideal) (ix2 r l)
        = tableOf x0 x1 ((Rect.unit (s := S800x128) ![0, 64] S800x64.size inb_S800x128_S800x64_0_64).emb (ix2 r l)) := by
      intro r l
      rw [emb_zeros]
      refine (zeros_apply (ix2 r l)).trans ?_
      unfold tableOf table
      exact ((dif_neg (show ¬64 + l.val < 32 by omega)).trans (dif_neg (show ¬64 + l.val < 64 by omega))).symm
    have := key (x 0) (x 1)
    rwa [← eq_ix2 x] at this
  · have key : ∀ (r : Fin 800) (l : Fin 32), weights (F := Ideal) (loadS arg0 harg0 x0) (loadW arg1 harg1 x1) (ix2 r l)
        = tableOf x0 x1 ((Rect.unit (s := S800x128) ![0, 32] S800x32.size inb_S800x128_S800x32_0_32).emb (ix2 r l)) := by
      intro r l
      rw [emb_weights, weights_apply, loadS_apply, loadW_apply]
      unfold tableOf table
      refine Eq.trans ?_ ((dif_neg (show ¬32 + l.val < 32 by omega)).trans (dif_pos (show 32 + l.val < 64 by omega))).symm
      have hk : (⟨32 * (r.val / 16) + (32 + l.val - 32), by omega⟩ : Fin 1600) = ⟨32 * (r.val / 16) + l.val, by omega⟩ :=
        Fin.ext (by dsimp only; omega)
      exact congrArg (fun k : Fin 1600 => Scalar.select (IntOp.cmpi .sge (x0 (ix2 ⟨r.val % 16, by omega⟩ k)) 0#32)
        (x1 (ix2 ⟨r.val % 16, by omega⟩ k)) (0 : EReal)) hk.symm
    have := key (x 0) (x 1)
    rwa [← eq_ix2 x] at this
  · have key : ∀ (r : Fin 800) (l : Fin 32), tokens (F := Ideal) (loadS arg0 harg0 x0) (ix2 r l)
        = tableOf x0 x1 ((Rect.unit (s := S800x128) ![0, 0] S800x32.size inb_S800x128_S800x32_0_0).emb (ix2 r l)) := by
      intro r l
      rw [emb_tokens, tokens_apply, loadS_apply]
      unfold tableOf table
      refine Eq.trans ?_ (dif_pos (show l.val < 32 by omega)).symm
      rfl
    have := key (x 0) (x 1)
    rwa [← eq_ix2 x] at this

/-- What the body leaves of the table. -/
theorem out_2 (x0 : Vec Ideal S16x1600 .i32) (x1 : Vec Ideal S16x1600 .f32) :
    out0_A_2 c arg0 harg0 arg1 harg1 arg2 harg2 arg3 harg3 arg4 harg4 x0 x1 = tableOf x0 x1 := by
  rw [out0_A_2, View.read_writes_junk_eq_canon]
  funext y
  have hy := cover0_A_2 c arg0 harg0 arg1 harg1 arg2 harg2 arg3 harg3 arg4 harg4 x0 x1 y
  rw [list_2] at hy ⊢
  exact View.canon_apply_of_pieces _ _ (pieces arg0 harg0 arg1 harg1 x0 x1).mem y hy

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The source rows' block is the whole argument. -/
theorem blk0 (t : Fin cfg0.N) (e : Fin 16) (k : Fin 1600) :
    (iblk m c 0 t : S16x1600.Idx → BitVec 32) (ix2 e k) = (V m c main_arg0 : S16x1600.Idx → BitVec 32) (ix2 e k) := by
  blk_ext [iblk, idx t]

/-- The weights' block is the whole argument. -/
theorem blk1 (t : Fin cfg0.N) (e : Fin 16) (k : Fin 1600) :
    (iblk m c 1 t : S16x1600.Idx → EReal) (ix2 e k) = (V m c main_arg1 : S16x1600.Idx → EReal) (ix2 e k) := by
  blk_ext [iblk, idx t]

/-- The grid's only point. -/
abbrev onePt : Fin cfg0.N := ⟨0, by decide +kernel⟩

/-- The source rows, as launched. -/
abbrev mSrc : S16x1600.Idx → BitVec 32 := m ((c.tc : Thread nD τ).loc main_arg0)

/-- The weights, as launched. -/
abbrev mW : S16x1600.Idx → EReal := m ((c.tc : Thread nD τ).loc main_arg1)

/-- THE KERNEL'S TABLE after the run. -/
theorem final2 : (dats m 0 c).arrAt 2 cfg0.N = tableOf (mSrc c m) (mW c m) := by
  refine (dats m 0 c).arrAt_eq_of_after_last 2 onePt (by decide +kernel) _ fun j => ?_
  blk_simp
  rw [after0_2]
  unfold outsAt0
  dsimp only
  rw [out_2]
  have h0 : (fun (e : Fin 16) (k : Fin 1600) => (iblk m c 0 onePt : S16x1600.Idx → BitVec 32) (ix2 e k)) = fun e k => mSrc c m (ix2 e k) :=
    funext fun e => funext fun k => blk0 c m onePt e k
  have h1 : (fun (e : Fin 16) (k : Fin 1600) => (iblk m c 1 onePt : S16x1600.Idx → EReal) (ix2 e k)) = fun e k => mW c m (ix2 e k) :=
    funext fun e => funext fun k => blk1 c m onePt e k
  exact congrArg₂ (fun s w => table s w (j 0) (j 1)) h0 h1

end Cert.PlanIdeal.TableValue

end
-- ==== Proof.TableR.lean ====
/- The plan reference's table at an index. -/
module

public import proofs.«01_k».proof.Proof.TableWords
public import proofs.«01_k».proof.Proof.Gen.PlanReferenceIdeal.Run
public import Idealize.ShloMosaic.Lib.Pointwise

@[expose] public section

set_option maxRecDepth 16384

noncomputable section

namespace Cert.PlanReferenceIdeal.TableValue

open Idealize.ShloMosaic Idealize.ShloMosaic.TcCoe Idealize.SL.Sem
open Cert.PlanReferenceIdeal Cert.PlanReferenceIdeal.Gen Cert.PlanReferenceIdeal.Value Cert.PlanTable

/-- The slots' tokens, as the reference's operations compose them. -/
def refTokens (s : IVec S16x1600 32) : FVec Ideal S16x1600 .f32 :=
  sitofp .f32 (select (cmpi .sge s (broadcastInDim S16x1600 ![] bcast_S_S16x1600 (constantI S_ 32 0#32)))
    (select (andi (cmpi .ne (signi s) (broadcastInDim S16x1600 ![] bcast_S_S16x1600 (signi (id (constantI S_ 32 4#32)))))
        (cmpi .ne (Host.remsi s (broadcastInDim S16x1600 ![] bcast_S_S16x1600 (id (constantI S_ 32 4#32))))
          (broadcastInDim S16x1600 ![] bcast_S_S16x1600 (constantI S_ 32 0#32))))
      (subi (Host.divsi s (broadcastInDim S16x1600 ![] bcast_S_S16x1600 (id (constantI S_ 32 4#32))))
        (broadcastInDim S16x1600 ![] bcast_S_S16x1600 (constantI S_ 32 1#32)))
      (Host.divsi s (broadcastInDim S16x1600 ![] bcast_S_S16x1600 (id (constantI S_ 32 4#32)))))
    (broadcastInDim S16x1600 ![] bcast_S_S16x1600 (id (constantI S_ 32 4294967295#32))))

/-- The slots' weights, as the reference's operations compose them. -/
def refWeights (s : IVec S16x1600 32) (w : FVec Ideal S16x1600 .f32) : FVec Ideal S16x1600 .f32 :=
  select (cmpi .sge s (broadcastInDim S16x1600 ![] bcast_S_S16x1600 (constantI S_ 32 0#32))) w
    (broadcastInDim S16x1600 ![] bcast_S_S16x1600 (id (constant (F := Ideal) S_ .f32 0x00000000#32)))

/-- The reference's reordering: 32 slots to a row, the experts inside. -/
def byRow (x : FVec Ideal S16x1600 .f32) : FVec Ideal S800x32 .f32 :=
  shapeCast S800x32 (transpose S50x16x32 [1, 0, 2] (shapeCast S16x50x32 x shapeCasts_S16x1600_S16x50x32) transposes_S16x50x32_S50x16x32_1_0_2)
    shapeCasts_S50x16x32_S800x32

/-- The reference's table, as its operations compose it. -/
def refTable (s : IVec S16x1600 32) (w : FVec Ideal S16x1600 .f32) : FVec Ideal S800x128 .f32 :=
  concatenate S800x128 1 [⟨S800x32, byRow (refTokens s)⟩, ⟨S800x32, byRow (refWeights s w)⟩,
    ⟨S800x64, broadcastInDim S800x64 ![] bcast_S_S800x64 (constant (F := Ideal) S_ .f32 0x00000000#32)⟩]
    concatenates_S800x32_S800x32_S800x64_S800x128_d1

/-- The reordering at an index. -/
theorem byRow_apply (x : FVec Ideal S16x1600 .f32) (r : Fin 800) (l : Fin 32) :
    byRow x (ix2 r l) = x (ix2 ⟨r.val % 16, by omega⟩ ⟨32 * (r.val / 16) + l.val, by omega⟩) := by
  pointwise [byRow]
  exact congrArg x (congrArg (ix2 _) (Fin.ext (congrArg (· + l.val) (Nat.mul_comm _ _))))

/-- The tokens at an index. -/
theorem refTokens_apply (s : IVec S16x1600 32) (e : Fin 16) (k : Fin 1600) :
    refTokens s (ix2 e k) = Scalar.sitofp (F := Ideal) .f32 (refToken (s (ix2 e k))) := by
  pointwise [refTokens]
  rfl

/-- The weights at an index. -/
theorem refWeights_apply (s : IVec S16x1600 32) (w : FVec Ideal S16x1600 .f32) (e : Fin 16) (k : Fin 1600) :
    refWeights s w (ix2 e k) = Scalar.select (IntOp.cmpi .sge (s (ix2 e k)) 0#32) (w (ix2 e k)) (0 : EReal) := by
  pointwise [refWeights]
  exact congrArg (Scalar.select _ (w (ix2 e k))) Ideal.ofBits_zero_f32

/-- The table at an index. -/
theorem refTable_apply (s : IVec S16x1600 32) (w : FVec Ideal S16x1600 .f32) (r : Fin 800) (l : Fin 128) :
    refTable s w (ix2 r l) = table (fun e k => s (ix2 e k)) (fun e k => w (ix2 e k)) r l := by
  unfold refTable table
  pointwise [byRow_apply, refTokens_apply, refWeights_apply, token_eq_ref]
  by_cases h : l.val < 32
  · rw [dif_pos h, dif_pos h]
  · rw [dif_neg h, dif_neg h]
    by_cases h' : l.val < 64
    · rw [dif_pos (show l.val - 32 < 32 by omega), dif_pos h']
    · rw [dif_neg (show ¬l.val - 32 < 32 by omega), dif_neg h']

end Cert.PlanReferenceIdeal.TableValue

end
-- ==== Proof.TableAgree.lean ====
/- The plan call's table and its reference's are the same array. -/
module

public import proofs.«01_k».proof.Proof.Table
public import proofs.«01_k».proof.Proof.TableR

@[expose] public section

noncomputable section

namespace Cert.Agree

open Idealize.ShloMosaic Idealize.ShloMosaic.TcCoe Idealize.SL.Sem

variable (m : (ℓ : Loc Cert.PlanIdeal.nD Cert.PlanIdeal.τ Cert.PlanIdeal.sig) → Buf (Elt Ideal) ℓ)
  (m' : (ℓ : Loc Cert.PlanReferenceIdeal.nD Cert.PlanReferenceIdeal.τ Cert.PlanReferenceIdeal.sig) → Buf (Elt Ideal) ℓ)
  (c : Dev Cert.PlanIdeal.nD)

/-- From equal arguments, the reference's table is the plan call's. -/
theorem table_same
    (h0 : m' ((c.tc : Thread Cert.PlanReferenceIdeal.nD Cert.PlanReferenceIdeal.τ).loc Cert.PlanReferenceIdeal.main_arg0)
      = m ((c.tc : Thread Cert.PlanIdeal.nD Cert.PlanIdeal.τ).loc Cert.PlanIdeal.main_arg0))
    (h1 : m' ((c.tc : Thread Cert.PlanReferenceIdeal.nD Cert.PlanReferenceIdeal.τ).loc Cert.PlanReferenceIdeal.main_arg1)
      = m ((c.tc : Thread Cert.PlanIdeal.nD Cert.PlanIdeal.τ).loc Cert.PlanIdeal.main_arg1)) :
    Cert.PlanReferenceIdeal.TableValue.refTable
        (m' ((c.tc : Thread Cert.PlanReferenceIdeal.nD Cert.PlanReferenceIdeal.τ).loc Cert.PlanReferenceIdeal.main_arg0))
        (m' ((c.tc : Thread Cert.PlanReferenceIdeal.nD Cert.PlanReferenceIdeal.τ).loc Cert.PlanReferenceIdeal.main_arg1))
      = (Cert.PlanIdeal.Gen.dats m 0 c).arrAt 2 Cert.PlanIdeal.cfg0.N := by
  rw [Cert.PlanIdeal.TableValue.final2, h0, h1]
  funext j
  rw [eq_ix2 j]
  exact Cert.PlanReferenceIdeal.TableValue.refTable_apply _ _ (j 0) (j 1)

end Cert.Agree

end
-- ==== Proof.lean ====
/- The proof of the directory's claim: the programs' frames, the realizations, and two equalities at exact arithmetic:
   of the router call's four results with the reference's wherever the slots are routed, and of the plan call's table
   with its reference's, always. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Plan
public import proofs.«01_k».proof.Proof.Gen.Plan.Skeleton
public import proofs.«01_k».proof.Proof.Gen.Plan.Launch
public import proofs.«01_k».proof.Proof.Gen.Plan.Points
public import proofs.«01_k».proof.Proof.Gen.Plan.Frame
public import proofs.«01_k».proof.Proof.Gen.PlanIdeal
public import proofs.«01_k».proof.Proof.Gen.PlanIdeal.Skeleton
public import proofs.«01_k».proof.Proof.Gen.PlanIdeal.Launch
public import proofs.«01_k».proof.Proof.Gen.PlanIdeal.Points
public import proofs.«01_k».proof.Proof.Gen.PlanIdeal.Frame
public import proofs.«01_k».proof.Proof.Gen.PlanIdeal.Value
public import proofs.«01_k».proof.Proof.Gen.PlanReferenceIdeal
public import proofs.«01_k».proof.Proof.Gen.PlanReferenceIdeal.Run
public import proofs.«01_k».proof.Proof.Gen.Pre_routed
public import proofs.«01_k».proof.Proof.Gen.KernelIdeal.Value
public import proofs.«01_k».proof.Proof.Gen.ReferenceIdeal.Value
public import proofs.«01_k».proof.Proof.Agree
public import proofs.«01_k».proof.Proof.TableAgree
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_routed.Gen.facts
  Cert.Plan.Gen.facts Cert.PlanIdeal.Gen.facts Cert.PlanReferenceIdeal.Gen.facts

/-- The kernel runs to the end, keeps its arguments and leaves every semaphore at zero. -/
theorem kernel_frame : Cert.quiescent_Kernel := fun m g _ => Cert.Kernel.Gen.frame m g

/-- So does the kernel at exact arithmetic. -/
theorem ideal_frame : Cert.quiescent_KernelIdeal := fun m g _ => Cert.KernelIdeal.Gen.frame m g

/-- And so, in particular, from routed arguments. -/
theorem ideal_frame_routed : Cert.quiescent_KernelIdeal_pre_routed := fun m g _ => Cert.KernelIdeal.Gen.frame m g

/-- The reference runs to the end, keeps its arguments and leaves every semaphore at zero. -/
theorem reference_frame : Cert.quiescent_ReferenceIdeal := fun m g _ => Cert.ReferenceIdeal.Gen.frame m g

/-- And so, in particular, from routed arguments. -/
theorem reference_frame_routed : Cert.quiescent_ReferenceIdeal_pre_routed := fun m g _ => Cert.ReferenceIdeal.Gen.frame m g

/-- The exact kernel preserves the kernel's arrays. -/
theorem preserves : Cert.preserves_Kernel_KernelIdeal := trivial

/-- From routed arguments the kernel's four results are the reference's. -/
theorem algebraic : Cert.algebraic_KernelIdeal_ReferenceIdeal_pre_routed := by
  intro m g m' g' hpre hargs
  have hr (c : Dev Cert.KernelIdeal.nD) : Cert.Router.Routed (Cert.KernelIdeal.RefValue.mSlot m c) (Cert.KernelIdeal.RefValue.mIds m c) :=
    Cert.Pre_routed.routed_of_fn _ _ _ _ _ _ _ _ _ (hpre c)
  have hs (c : Dev Cert.KernelIdeal.nD) : Cert.Agree.Same m m' c :=
    have ⟨h0, h1, h2, h3, h4, h5, h6, h7, h8⟩ := hargs c
    ⟨h0, h1, h2, h3, h4, h5, h6, h7, h8⟩
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N, Cert.KernelIdeal.Value.run_blocks m g, ?_⟩
  refine (θ_run Cert.ReferenceIdeal.defs _ _).mono (fun r h c => ⟨
      ((h c).2 Cert.ReferenceIdeal.main_v81 (Pipeline.mem_restRefs_of Cert.ReferenceIdeal.main_v81 (by decide) (by decide))).trans
        (Cert.Agree.dx_same (hs c) (hr c)),
      (Cert.ReferenceIdeal.Value.post3 m' r h c).trans (Cert.Agree.dwr_same (hs c) (hr c)),
      ((h c).2 Cert.ReferenceIdeal.main_v77 (Pipeline.mem_restRefs_of Cert.ReferenceIdeal.main_v77 (by decide) (by decide))).trans
        (Cert.Agree.dl_result_same (hs c) (hr c)),
      ((h c).2 Cert.ReferenceIdeal.main_v12 (Pipeline.mem_restRefs_of Cert.ReferenceIdeal.main_v12 (by decide) (by decide))).trans
        (Cert.Agree.dw_same (hs c) (hr c)),
      Cert.ReferenceIdeal.Value.kept_main_arg0 m' r h c,
      Cert.ReferenceIdeal.Value.kept_main_arg1 m' r h c,
      Cert.ReferenceIdeal.Value.kept_main_arg2 m' r h c,
      Cert.ReferenceIdeal.Value.kept_main_arg3 m' r h c,
      Cert.ReferenceIdeal.Value.kept_main_arg4 m' r h c,
      Cert.ReferenceIdeal.Value.kept_main_arg5 m' r h c,
      Cert.ReferenceIdeal.Value.kept_main_arg6 m' r h c,
      Cert.ReferenceIdeal.Value.kept_main_arg7 m' r h c,
      Cert.ReferenceIdeal.Value.kept_main_arg8 m' r h c⟩)
    (Cert.ReferenceIdeal.Gen.run_main m' g')

/-- The plan call runs to the end, keeps its arguments and leaves every semaphore at zero. -/
theorem plan_frame : Cert.quiescent_Plan := fun m g _ => Cert.Plan.Gen.frame m g

/-- So does the plan call at exact arithmetic. -/
theorem plan_ideal_frame : Cert.quiescent_PlanIdeal := fun m g _ => Cert.PlanIdeal.Gen.frame m g

/-- The plan's reference runs to the end and keeps its arguments; it has no semaphore. -/
theorem plan_reference_frame : Cert.quiescent_PlanReferenceIdeal := fun m g _ =>
  (θ_run Cert.PlanReferenceIdeal.defs _ _).mono
    (fun r h => ⟨fun c => (h c).2, Idealize.ShloMosaic.sem_eq_zero_of_no_sems (by decide) r.2⟩)
    (Cert.PlanReferenceIdeal.Value.run (F := Ideal) m g)

/-- The exact plan call preserves the plan call's arrays. -/
theorem plan_preserves : Cert.preserves_Plan_PlanIdeal := trivial

/-- The plan call's table is its reference's, from any arguments. -/
theorem plan_algebraic : Cert.algebraic_PlanIdeal_PlanReferenceIdeal := by
  intro m g m' g' _ hargs
  refine ⟨fun c => (Cert.PlanIdeal.Gen.dats m 0 c).arrAt 2 Cert.PlanIdeal.cfg0.N,
    (θ_run Cert.PlanIdeal.defs _ _).mono (fun r h c => ⟨(h c).1, (h c).2.2.1, (h c).2.2.2⟩) (Cert.PlanIdeal.Value.run_blocks m g),
    (θ_run Cert.PlanReferenceIdeal.defs _ _).mono (fun r h c => ⟨(h c).1.trans ?_, (h c).2.1, (h c).2.2⟩)
      (Cert.PlanReferenceIdeal.Value.run (F := Ideal) m' g')⟩
  exact Cert.Agree.table_same m m' c (hargs c).1 (hargs c).2

/-- The directory's claim. -/
theorem claim : Cert.Claim :=
  ⟨Cert.Kernel.Gen.facts, Cert.KernelIdeal.Gen.facts, Cert.ReferenceIdeal.Gen.facts, Cert.Plan.Gen.facts, Cert.PlanIdeal.Gen.facts,
    Cert.PlanReferenceIdeal.Gen.facts, Cert.Pre_routed.Gen.facts,
    kernel_frame, ideal_frame, ideal_frame_routed, reference_frame, reference_frame_routed, plan_frame, plan_ideal_frame,
    plan_reference_frame, preserves, algebraic, plan_preserves, plan_algebraic⟩

end Cert.Proof

end
